-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "big" .f32 0x7F61B1E6#32 ⊤
  ∧ IdealRules.named_const.Statement Cert.KernelIdeal.κ "fifth" .f32 0x3E4CCCCD#32 ((5⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v59_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v59_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S16x3x224x224 : Shape := ⟨4, ![16, 3, 224, 224]⟩
abbrev S588x1024 : Shape := ⟨2, ![588, 1024]⟩
abbrev S1024 : Shape := ⟨1, ![1024]⟩
abbrev S2x1024x1024 : Shape := ⟨3, ![2, 1024, 1024]⟩
abbrev S2x1024 : Shape := ⟨2, ![2, 1024]⟩
abbrev S_ : Shape := ⟨0, ![]⟩

class Facts : Prop where
  bcast_S_S16x3x224x224 : S_.BroadcastsInDim S16x3x224x224 (![] : Fin 0 → Fin S16x3x224x224.rank)
  reducesTo_S16x3x224x224_S_d0_1_2_3 : S16x3x224x224.ReducesTo [0, 1, 2, 3] S_
  h_S_ : 0 < S_.numel
  bcast_S_S588x1024 : S_.BroadcastsInDim S588x1024 (![] : Fin 0 → Fin S588x1024.rank)
  reducesTo_S588x1024_S_d0_1 : S588x1024.ReducesTo [0, 1] S_
  bcast_S_S1024 : S_.BroadcastsInDim S1024 (![] : Fin 0 → Fin S1024.rank)
  reducesTo_S1024_S_d0 : S1024.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_arg4 : FVec F S2x1024 .f32) (main_v13 : IVec S_ 1) (main_v16 : IVec S2x1024x1024 1) : IVec S_ 1 :=
  let main_c_5 : IVec S_ 1 := constantI S_ 1 1#1
  let main_v17 : IVec S_ 1 := (fun x v => Host.reduce IntOp.andi x v reducesTo_S2x1024x1024_S_d0_1_2 h_S_) main_v16 main_c_5
  let main_v18 : IVec S_ 1 := andi main_v13 main_v17
  let main_v19 : FVec F S2x1024 .f32 := Host.absf main_arg4
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  main_v23

def fn {F : FTy → Type} [FloatOps F] (main_arg0 : FVec F S16x3x224x224 .f32) (main_arg1 : FVec F S588x1024 .f32) (main_arg2 : FVec F S1024 .f32) (main_arg3 : FVec F S2x1024x1024 .f32) (main_arg4 : FVec F S2x1024 .f32) : IVec S_ 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_c : IVec S_ 1 := constantI S_ 1 1#1
  let main_v3 : IVec S_ 1 := (fun x v => Host.reduce IntOp.andi x v reducesTo_S16x3x224x224_S_d0_1_2_3 h_S_) main_v2 main_c
  let main_v4 : FVec F S588x1024 .f32 := Host.absf main_arg1
  let main_cst_0 : FVec F S_ .f32 := constant S_ .f32 0x7F800000#32
  let main_v5 : FVec F S588x1024 .f32 := broadcastInDim S588x1024 ![] bcast_S_S588x1024 main_cst_0
  let main_v6 : IVec S588x1024 1 := cmpf .olt main_v4 main_v5
  let main_c_1 : IVec S_ 1 := constantI S_ 1 1#1
  let main_v7 : IVec S_ 1 := (fun x v => Host.reduce IntOp.andi x v reducesTo_S588x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024x1024 .f32 := Host.absf main_arg3
  let main_cst_4 : FVec F S_ .f32 := constant S_ .f32 0x7F800000#32
  let main_v15 : FVec F S2x1024x1024 .f32 := broadcastInDim S2x1024x1024 ![] bcast_S_S2x1024x1024 main_cst_4
  let main_v16 : IVec S2x1024x1024 1 := cmpf .olt main_v14 main_v15
  fn_part1 (F := F) main_arg4 main_v13 main_v16
-- ==== Kernel.lean ====
abbrev S16x3x224x224 : Shape := ⟨4, ![16, 3, 224, 224]⟩
abbrev S588x1024 : Shape := ⟨2, ![588, 1024]⟩
abbrev S1024 : Shape := ⟨1, ![1024]⟩
abbrev S2x1024x1024 : Shape := ⟨3, ![2, 1024, 1024]⟩
abbrev S2x1024 : Shape := ⟨2, ![2, 1024]⟩
abbrev S16x3x16x14x16x14 : Shape := ⟨6, ![16, 3, 16, 14, 16, 14]⟩
abbrev S16x16x16x3x14x14 : Shape := ⟨6, ![16, 16, 16, 3, 14, 14]⟩
abbrev S16x256x588 : Shape := ⟨3, ![16, 256, 588]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S4x16x256x1024 : Shape := ⟨4, ![4, 16, 256, 1024]⟩
abbrev S4x16x256x128 : Shape := ⟨4, ![4, 16, 256, 128]⟩
abbrev S4x1x4096 : Shape := ⟨3, ![4, 1, 4096]⟩
abbrev S4x256x588 : Shape := ⟨3, ![4, 256, 588]⟩
abbrev S4x4x256x1024 : Shape := ⟨4, ![4, 4, 256, 1024]⟩
abbrev S4x4x256x128 : Shape := ⟨4, ![4, 4, 256, 128]⟩
abbrev S4x1x1024 : Shape := ⟨3, ![4, 1, 1024]⟩
abbrev S1024x588 : Shape := ⟨2, ![1024, 588]⟩
abbrev S1024x1024 : Shape := ⟨2, ![1024, 1024]⟩
abbrev S1x1024 : Shape := ⟨2, ![1, 1024]⟩
abbrev S1024x128 : Shape := ⟨2, ![1024, 128]⟩
abbrev S1x1024x1024 : Shape := ⟨3, ![1, 1024, 1024]⟩
abbrev S4x256x1024 : Shape := ⟨3, ![4, 256, 1024]⟩
abbrev S1x4x256x1024 : Shape := ⟨4, ![1, 4, 256, 1024]⟩
abbrev S4x256x128 : Shape := ⟨3, ![4, 256, 128]⟩
abbrev S1x4x256x128 : Shape := ⟨4, ![1, 4, 256, 128]⟩
abbrev S1x1x1024 : Shape := ⟨3, ![1, 1, 1024]⟩
abbrev S256x1024 : Shape := ⟨2, ![256, 1024]⟩
abbrev S4x5x4x4096 : Shape := ⟨4, ![4, 5, 4, 4096]⟩
abbrev S1x16x256x1024 : Shape := ⟨4, ![1, 16, 256, 1024]⟩
abbrev S1x16x256x128 : Shape := ⟨4, ![1, 16, 256, 128]⟩
abbrev S1x1x4x1024 : Shape := ⟨4, ![1, 1, 4, 1024]⟩
abbrev S4x1024 : Shape := ⟨2, ![4, 1024]⟩
abbrev S224x16 : Shape := ⟨2, ![224, 16]⟩
abbrev S224 : Shape := ⟨1, ![224]⟩
abbrev S224x1 : Shape := ⟨2, ![224, 1]⟩
abbrev S224x16x1 : Shape := ⟨3, ![224, 16, 1]⟩
abbrev S224x16x16 : Shape := ⟨3, ![224, 16, 16]⟩
abbrev S224x256 : Shape := ⟨2, ![224, 256]⟩
abbrev S224x1x16 : Shape := ⟨3, ![224, 1, 16]⟩
abbrev S256x224 : Shape := ⟨2, ![256, 224]⟩
abbrev S16x224x224 : Shape := ⟨3, ![16, 224, 224]⟩
abbrev S1x16 : Shape := ⟨2, ![1, 16]⟩
abbrev S4x1x1x4096 : Shape := ⟨4, ![4, 1, 1, 4096]⟩
abbrev S4x4096 : Shape := ⟨2, ![4, 4096]⟩
abbrev S1x1x4096 : Shape := ⟨3, ![1, 1, 4096]⟩
abbrev S4096 : Shape := ⟨1, ![4096]⟩
abbrev S256 : Shape := ⟨1, ![256]⟩
abbrev S1x256 : Shape := ⟨2, ![1, 256]⟩
abbrev S1 : Shape := ⟨1, ![1]⟩
abbrev S1x1 : Shape := ⟨2, ![1, 1]⟩
abbrev S16 : Shape := ⟨1, ![16]⟩
abbrev S224x224 : Shape := ⟨2, ![224, 224]⟩
abbrev S1x224x224 : Shape := ⟨3, ![1, 224, 224]⟩

abbrev nBuf : Space → Nat
  | .hbm => 85
  | .vmem => 28
  | .smem => 0
  | _ => 0

abbrev bufTy : (tb : Table) → Fin (tcTables nBuf tb) → BufTy
  | .hbm, ⟨0, _⟩ => ⟨S16x3x224x224, .f32⟩
  | .hbm, ⟨1, _⟩ => ⟨S588x1024, .f32⟩
  | .hbm, ⟨2, _⟩ => ⟨S1024, .f32⟩
  | .hbm, ⟨3, _⟩ => ⟨S2x1024x1024, .f32⟩
  | .hbm, ⟨4, _⟩ => ⟨S2x1024, .f32⟩
  | .hbm, ⟨5, _⟩ => ⟨S16x3x224x224, .bf16⟩
  | .hbm, ⟨6, _⟩ => ⟨S16x3x16x14x16x14, .bf16⟩
  | .hbm, ⟨7, _⟩ => ⟨S16x16x16x3x14x14, .bf16⟩
  | .hbm, ⟨8, _⟩ => ⟨S16x256x588, .bf16⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S_, .i32⟩
  | .hbm, ⟨21, _⟩ => ⟨S16x16, .i32⟩
  | .hbm, ⟨22, _⟩ => ⟨S16x16, .i32⟩
  | .hbm, ⟨23, _⟩ => ⟨S16x16, .i1⟩
  | .hbm, ⟨24, _⟩ => ⟨S16x16, .i1⟩
  | .hbm, ⟨25, _⟩ => ⟨S16x16, .i1⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .f32⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S_, .f32⟩
  | .hbm, ⟨36, _⟩ => ⟨S16x16, .f32⟩
  | .hbm, ⟨37, _⟩ => ⟨S16x16, .f32⟩
  | .hbm, ⟨38, _⟩ => ⟨S16x1x16x1, .f32⟩
  | .hbm, ⟨39, _⟩ => ⟨S1x16x1x16, .f32⟩
  | .hbm, ⟨40, _⟩ => ⟨S16x16x16x16, .f32⟩
  | .hbm, ⟨41, _⟩ => ⟨S16x16x16x16, .f32⟩
  | .hbm, ⟨42, _⟩ => ⟨S16x16x16x16, .f32⟩
  | .hbm, ⟨43, _⟩ => ⟨S256x256, .f32⟩
  | .hbm, ⟨44, _⟩ => ⟨S4x16x256x1024, .bf16⟩
  | .hbm, ⟨45, _⟩ => ⟨S4x16x256x128, .f32⟩
  | .hbm, ⟨46, _⟩ => ⟨S4x1x4096, .f32⟩
  | .hbm, ⟨47, _⟩ => ⟨S4x5x4x4096, .f32⟩
  | .hbm, ⟨48, _⟩ => ⟨S4x5x4x4096, .f32⟩
  | .hbm, ⟨49, _⟩ => ⟨S224x16, .i32⟩
  | .hbm, ⟨50, _⟩ => ⟨S224x16, .f32⟩
  | .hbm, ⟨51, _⟩ => ⟨S224x16, .i32⟩
  | .hbm, ⟨52, _⟩ => ⟨S224x16, .f32⟩
  | .hbm, ⟨53, _⟩ => ⟨S_, .f32⟩
  | .hbm, ⟨54, _⟩ => ⟨S224x16, .f32⟩
  | .hbm, ⟨55, _⟩ => ⟨S224x16, .f32⟩
  | .hbm, ⟨56, _⟩ => ⟨S_, .f32⟩
  | .hbm, ⟨57, _⟩ => ⟨S224x16, .f32⟩
  | .hbm, ⟨58, _⟩ => ⟨S224x16, .f32⟩
  | .hbm, ⟨59, _⟩ => ⟨S_, .f32⟩
  | .hbm, ⟨60, _⟩ => ⟨S224x16, .f32⟩
  | .hbm, ⟨61, _⟩ => ⟨S224x16, .f32⟩
  | .hbm, ⟨62, _⟩ => ⟨S224x16, .f32⟩
  | .hbm, ⟨63, _⟩ => ⟨S224x16, .f32⟩
  | .hbm, ⟨64, _⟩ => ⟨S_, .f32⟩
  | .hbm, ⟨65, _⟩ => ⟨S224x16, .f32⟩
  | .hbm, ⟨66, _⟩ => ⟨S224x16, .f32⟩
  | .hbm, ⟨67, _⟩ => ⟨S_, .f32⟩
  | .hbm, ⟨68, _⟩ => ⟨S224x16, .f32⟩
  | .hbm, ⟨69, _⟩ => ⟨S224x16, .f32⟩
  | .hbm, ⟨70, _⟩ => ⟨S_, .f32⟩
  | .hbm, ⟨71, _⟩ => ⟨S224, .f32⟩
  | .hbm, ⟨72, _⟩ => ⟨S224x1, .f32⟩
  | .hbm, ⟨73, _⟩ => ⟨S224x16, .f32⟩
  | .hbm, ⟨74, _⟩ => ⟨S224x16, .f32⟩
  | .hbm, ⟨75, _⟩ => ⟨S224x16x1, .f32⟩
  | .hbm, ⟨76, _⟩ => ⟨S224x16x16, .f32⟩
  | .hbm, ⟨77, _⟩ => ⟨S224x256, .f32⟩
  | .hbm, ⟨78, _⟩ => ⟨S224x1x16, .f32⟩
  | .hbm, ⟨79, _⟩ => ⟨S224x16x16, .f32⟩
  | .hbm, ⟨80, _⟩ => ⟨S224x256, .f32⟩
  | .hbm, ⟨81, _⟩ => ⟨S256x224, .f32⟩
  | .hbm, ⟨82, _⟩ => ⟨S16x224x224, .f32⟩
  | .hbm, ⟨83, _⟩ => ⟨S1x16, .f32⟩
  | .hbm, ⟨84, _⟩ => ⟨S16, .f32⟩
  | .local _ .vmem, ⟨0, _⟩ => ⟨S4x256x588, .bf16⟩
  | .local _ .vmem, ⟨1, _⟩ => ⟨S4x256x588, .bf16⟩
  | .local _ .vmem, ⟨2, _⟩ => ⟨S588x1024, .f32⟩
  | .local _ .vmem, ⟨3, _⟩ => ⟨S1024, .f32⟩
  | .local _ .vmem, ⟨4, _⟩ => ⟨S2x1024x1024, .f32⟩
  | .local _ .vmem, ⟨5, _⟩ => ⟨S2x1024, .f32⟩
  | .local _ .vmem, ⟨6, _⟩ => ⟨S256x256, .f32⟩
  | .local _ .vmem, ⟨7, _⟩ => ⟨S4x4x256x1024, .bf16⟩
  | .local _ .vmem, ⟨8, _⟩ => ⟨S4x4x256x1024, .bf16⟩
  | .local _ .vmem, ⟨9, _⟩ => ⟨S4x4x256x128, .f32⟩
  | .local _ .vmem, ⟨10, _⟩ => ⟨S4x4x256x128, .f32⟩
  | .local _ .vmem, ⟨11, _⟩ => ⟨S4x1x1024, .f32⟩
  | .local _ .vmem, ⟨12, _⟩ => ⟨S4x1x1024, .f32⟩
  | .local _ .vmem, ⟨13, _⟩ => ⟨S1x16x256x1024, .bf16⟩
  | .local _ .vmem, ⟨14, _⟩ => ⟨S1x16x256x1024, .bf16⟩
  | .local _ .vmem, ⟨15, _⟩ => ⟨S1x16x256x128, .f32⟩
  | .local _ .vmem, ⟨16, _⟩ => ⟨S1x16x256x128, .f32⟩
  | .local _ .vmem, ⟨17, _⟩ => ⟨S1x1x4x1024, .f32⟩
  | .local _ .vmem, ⟨18, _⟩ => ⟨S1x1x4x1024, .f32⟩
  | .local _ .vmem, ⟨19, _⟩ => ⟨S1x1x4x1024, .f32⟩
  | .local _ .vmem, ⟨20, _⟩ => ⟨S1x1x4x1024, .f32⟩
  | .local _ .vmem, ⟨21, _⟩ => ⟨S4x5x4x4096, .f32⟩
  | .local _ .vmem, ⟨22, _⟩ => ⟨S4x5x4x4096, .f32⟩
  | .local _ .vmem, ⟨23, _⟩ => ⟨S4x1x4096, .f32⟩
  | .local _ .vmem, ⟨24, _⟩ => ⟨S224x256, .f32⟩
  | .local _ .vmem, ⟨25, _⟩ => ⟨S256x224, .f32⟩
  | .local _ .vmem, ⟨26, _⟩ => ⟨S16x224x224, .f32⟩
  | .local _ .vmem, ⟨27, _⟩ => ⟨S1x16, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v31_0 : Ref sig .tc := ⟨.hbm, 47, rfl⟩
abbrev main_v31_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59_0 : Ref sig .tc := ⟨.hbm, 82, rfl⟩
abbrev main_v59_1 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x588 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S588x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![4, 5, 2], ![false, false, false]⟩

def k1_off1 (i : grid1.Coords) : Fin 4 → Nat :=
  let c0 : Index := 0#32
  let arg1 : BitVec 32 := BitVec.ofNat 32 (i 1).val
  let c3_i32_0 : BitVec 32 := 3#32
  let v3 : BitVec 1 := Scalar.cmpi .sge arg1 c3_i32_0
  let c3_i32 : BitVec 32 := 3#32
  let v0 : BitVec 32 := Scalar.subi arg1 c3_i32
  let c2_i32 : BitVec 32 := 2#32
  let v1 : BitVec 32 := Scalar.muli v0 c2_i32
  let arg2 : BitVec 32 := BitVec.ofNat 32 (i 2).val
  let v2 : BitVec 32 := Scalar.addi v1 arg2
  let c0_i32 : BitVec 32 := 0#32
  let v4 : BitVec 1 := Scalar.cmpi .eq arg2 c0_i32
  let c3_i32_6 : BitVec 32 := 3#32
  let v5 : BitVec 32 := Scalar.addi arg1 arg2
  let c3_i32_1 : BitVec 32 := 3#32
  let c0_i32_2 : BitVec 32 := 0#32
  let v6 : BitVec 1 := Scalar.cmpi .eq c3_i32_1 c0_i32_2
  let c1_i32 : BitVec 32 := 1#32
  let v7 : BitVec 32 := Scalar.select v6 c1_i32 c3_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : BitVec 32 := Scalar.select v4 c3_i32_6 v15
  let v17 : BitVec 32 := Scalar.select v3 v2 v16
  let c4_i32 : BitVec 32 := 4#32
  let v31 : BitVec 32 := Scalar.muli v17 c4_i32
  let v32 : Index := Scalar.indexCast v31
  let c0_14 : Index := 0#32
  let c0_15 : Index := 0#32
  ![0, v32.toNat, 0, 0]
def k1_off2 (i : grid1.Coords) : Fin 4 → Nat :=
  let c0_17 : Index := 0#32
  let arg1 : BitVec 32 := BitVec.ofNat 32 (i 1).val
  let c3_i32_7 : BitVec 32 := 3#32
  let v18 : BitVec 1 := Scalar.cmpi .sge arg1 c3_i32_7
  let c3_i32 : BitVec 32 := 3#32
  let v0 : BitVec 32 := Scalar.subi arg1 c3_i32
  let c2_i32 : BitVec 32 := 2#32
  let v1 : BitVec 32 := Scalar.muli v0 c2_i32
  let arg2 : BitVec 32 := BitVec.ofNat 32 (i 2).val
  let v2 : BitVec 32 := Scalar.addi v1 arg2
  let v19 : BitVec 32 := Scalar.subi arg1 arg2
  let c3_i32_8 : BitVec 32 := 3#32
  let c0_i32_9 : BitVec 32 := 0#32
  let v20 : BitVec 1 := Scalar.cmpi .eq c3_i32_8 c0_i32_9
  let c1_i32_10 : BitVec 32 := 1#32
  let v21 : BitVec 32 := Scalar.select v20 c1_i32_10 c3_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.select v18 v2 v29
  let c4_i32_16 : BitVec 32 := 4#32
  let v36 : BitVec 32 := Scalar.muli v30 c4_i32_16
  let v37 : Index := Scalar.indexCast v36
  let c0_18 : Index := 0#32
  let c0_19 : Index := 0#32
  ![0, v37.toNat, 0, 0]
def k1_off3 (i : grid1.Coords) : Fin 4 → Nat :=
  let c0_21 : Index := 0#32
  let arg1 : BitVec 32 := BitVec.ofNat 32 (i 1).val
  let c3_i32_0 : BitVec 32 := 3#32
  let v3 : BitVec 1 := Scalar.cmpi .sge arg1 c3_i32_0
  let c3_i32 : BitVec 32 := 3#32
  let v0 : BitVec 32 := Scalar.subi arg1 c3_i32
  let c2_i32 : BitVec 32 := 2#32
  let v1 : BitVec 32 := Scalar.muli v0 c2_i32
  let arg2 : BitVec 32 := BitVec.ofNat 32 (i 2).val
  let v2 : BitVec 32 := Scalar.addi v1 arg2
  let c0_i32 : BitVec 32 := 0#32
  let v4 : BitVec 1 := Scalar.cmpi .eq arg2 c0_i32
  let c3_i32_6 : BitVec 32 := 3#32
  let v5 : BitVec 32 := Scalar.addi arg1 arg2
  let c3_i32_1 : BitVec 32 := 3#32
  let c0_i32_2 : BitVec 32 := 0#32
  let v6 : BitVec 1 := Scalar.cmpi .eq c3_i32_1 c0_i32_2
  let c1_i32 : BitVec 32 := 1#32
  let v7 : BitVec 32 := Scalar.select v6 c1_i32 c3_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : BitVec 32 := Scalar.select v4 c3_i32_6 v15
  let v17 : BitVec 32 := Scalar.select v3 v2 v16
  let c4_i32_20 : BitVec 32 := 4#32
  let v41 : BitVec 32 := Scalar.muli v17 c4_i32_20
  let v42 : Index := Scalar.indexCast v41
  let c0_22 : Index := 0#32
  let c0_23 : Index := 0#32
  ![0, v42.toNat, 0, 0]
def k1_off4 (i : grid1.Coords) : Fin 4 → Nat :=
  let c0_25 : Index := 0#32
  let arg1 : BitVec 32 := BitVec.ofNat 32 (i 1).val
  let c3_i32_7 : BitVec 32 := 3#32
  let v18 : BitVec 1 := Scalar.cmpi .sge arg1 c3_i32_7
  let c3_i32 : BitVec 32 := 3#32
  let v0 : BitVec 32 := Scalar.subi arg1 c3_i32
  let c2_i32 : BitVec 32 := 2#32
  let v1 : BitVec 32 := Scalar.muli v0 c2_i32
  let arg2 : BitVec 32 := BitVec.ofNat 32 (i 2).val
  let v2 : BitVec 32 := Scalar.addi v1 arg2
  let v19 : BitVec 32 := Scalar.subi arg1 arg2
  let c3_i32_8 : BitVec 32 := 3#32
  let c0_i32_9 : BitVec 32 := 0#32
  let v20 : BitVec 1 := Scalar.cmpi .eq c3_i32_8 c0_i32_9
  let c1_i32_10 : BitVec 32 := 1#32
  let v21 : BitVec 32 := Scalar.select v20 c1_i32_10 c3_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.select v18 v2 v29
  let c4_i32_24 : BitVec 32 := 4#32
  let v46 : BitVec 32 := Scalar.muli v30 c4_i32_24
  let v47 : Index := Scalar.indexCast v46
  let c0_26 : Index := 0#32
  let c0_27 : Index := 0#32
  ![0, v47.toNat, 0, 0]
def k1_cond1 (i : grid1.Coords) : BitVec 1 :=
  let arg1 : BitVec 32 := BitVec.ofNat 32 (i 1).val
  let c3_i32_34 : BitVec 32 := 3#32
  let v61 : BitVec 1 := Scalar.cmpi .slt arg1 c3_i32_34
  let v62 : BitVec 32 := Scalar.extui v61
  let c0_i32_35 : BitVec 32 := 0#32
  let v63 : BitVec 1 := Scalar.cmpi .ne v62 c0_i32_35
  v63

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg1 c3_i32
  let c2_i32 : BitVec 32 := 2#32
  let v1 : BitVec 32 := Scalar.muli v0 c2_i32
  let v2 : BitVec 32 := Scalar.addi v1 arg2
  let c3_i32_0 : BitVec 32 := 3#32
  let v3 : BitVec 1 := Scalar.cmpi .sge arg1 c3_i32_0
  let c0_i32 : BitVec 32 := 0#32
  let v4 : BitVec 1 := Scalar.cmpi .eq arg2 c0_i32
  let v5 : BitVec 32 := Scalar.addi arg1 arg2
  let c3_i32_1 : BitVec 32 := 3#32
  let c0_i32_2 : BitVec 32 := 0#32
  let v6 : BitVec 1 := Scalar.cmpi .eq c3_i32_1 c0_i32_2
  let c1_i32 : BitVec 32 := 1#32
  let v7 : BitVec 32 := Scalar.select v6 c1_i32 c3_i32_1
  let v8 : BitVec 32 := Scalar.remsi v5 v7
  let c0_i32_3 : BitVec 32 := 0#32
  let v9 : BitVec 1 := Scalar.cmpi .ne v8 c0_i32_3
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let v13 : BitVec 1 := Scalar.andi v12 v9
  let v14 : BitVec 32 := Scalar.addi v8 v7
  let v15 : BitVec 32 := Scalar.select v13 v14 v8
  let c3_i32_6 : BitVec 32 := 3#32
  let v16 : BitVec 32 := Scalar.select v4 c3_i32_6 v15
  let v17 : BitVec 32 := Scalar.select v3 v2 v16
  let c3_i32_7 : BitVec 32 := 3#32
  let v18 : BitVec 1 := Scalar.cmpi .sge arg1 c3_i32_7
  let v19 : BitVec 32 := Scalar.subi arg1 arg2
  let c3_i32_8 : BitVec 32 := 3#32
  let c0_i32_9 : BitVec 32 := 0#32
  let v20 : BitVec 1 := Scalar.cmpi .eq c3_i32_8 c0_i32_9
  let c1_i32_10 : BitVec 32 := 1#32
  let v21 : BitVec 32 := Scalar.select v20 c1_i32_10 c3_i32_8
  let v22 : BitVec 32 := Scalar.remsi v19 v21
  let c0_i32_11 : BitVec 32 := 0#32
  let v23 : BitVec 1 := Scalar.cmpi .ne v22 c0_i32_11
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.select v18 v2 v29
  let c0_i32_14 : BitVec 32 := 0#32
  let c0_i32_15 : BitVec 32 := 0#32
  ![arg0.toNat, arg1.toNat, c0_i32_14.toNat, v17.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg1 c3_i32
  let c2_i32 : BitVec 32 := 2#32
  let v1 : BitVec 32 := Scalar.muli v0 c2_i32
  let v2 : BitVec 32 := Scalar.addi v1 arg2
  let c3_i32_0 : BitVec 32 := 3#32
  let v3 : BitVec 1 := Scalar.cmpi .sge arg1 c3_i32_0
  let c0_i32 : BitVec 32 := 0#32
  let v4 : BitVec 1 := Scalar.cmpi .eq arg2 c0_i32
  let v5 : BitVec 32 := Scalar.addi arg1 arg2
  let c3_i32_1 : BitVec 32 := 3#32
  let c0_i32_2 : BitVec 32 := 0#32
  let v6 : BitVec 1 := Scalar.cmpi .eq c3_i32_1 c0_i32_2
  let c1_i32 : BitVec 32 := 1#32
  let v7 : BitVec 32 := Scalar.select v6 c1_i32 c3_i32_1
  let v8 : BitVec 32 := Scalar.remsi v5 v7
  let c0_i32_3 : BitVec 32 := 0#32
  let v9 : BitVec 1 := Scalar.cmpi .ne v8 c0_i32_3
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let v13 : BitVec 1 := Scalar.andi v12 v9
  let v14 : BitVec 32 := Scalar.addi v8 v7
  let v15 : BitVec 32 := Scalar.select v13 v14 v8
  let c3_i32_6 : BitVec 32 := 3#32
  let v16 : BitVec 32 := Scalar.select v4 c3_i32_6 v15
  let v17 : BitVec 32 := Scalar.select v3 v2 v16
  let c3_i32_7 : BitVec 32 := 3#32
  let v18 : BitVec 1 := Scalar.cmpi .sge arg1 c3_i32_7
  let v19 : BitVec 32 := Scalar.subi arg1 arg2
  let c3_i32_8 : BitVec 32 := 3#32
  let c0_i32_9 : BitVec 32 := 0#32
  let v20 : BitVec 1 := Scalar.cmpi .eq c3_i32_8 c0_i32_9
  let c1_i32_10 : BitVec 32 := 1#32
  let v21 : BitVec 32 := Scalar.select v20 c1_i32_10 c3_i32_8
  let v22 : BitVec 32 := Scalar.remsi v19 v21
  let c0_i32_11 : BitVec 32 := 0#32
  let v23 : BitVec 1 := Scalar.cmpi .ne v22 c0_i32_11
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.select v18 v2 v29
  let c0_i32_14 : BitVec 32 := 0#32
  let c0_i32_15 : BitVec 32 := 0#32
  ![arg0.toNat, arg1.toNat, c0_i32_14.toNat, v30.toNat]

abbrev stage1_0 : Fin 2 → Memref sig .tc .vmem S1x16x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x16x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1x4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x4x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := .none

abbrev stage2_0 : Fin 1 → Memref sig .tc .vmem S4x5x4x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x5x4x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S224x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x224 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S16x224x224 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== KernelIdeal.lean ====
variable {F : FTy → Type} [FloatOps F] [Named F]
def κ : String → Option EReal := fun
  | "big" => some ⊤
  | "fifth" => some ((5⁻¹ : ℝ) : EReal)
  | _ => none
-- ==== ReferenceIdeal.lean ====
abbrev S16x3x224x224 : Shape := ⟨4, ![16, 3, 224, 224]⟩
abbrev S588x1024 : Shape := ⟨2, ![588, 1024]⟩
abbrev S1024 : Shape := ⟨1, ![1024]⟩
abbrev S2x1024x1024 : Shape := ⟨3, ![2, 1024, 1024]⟩
abbrev S2x1024 : Shape := ⟨2, ![2, 1024]⟩
abbrev S16x3x16x14x16x14 : Shape := ⟨6, ![16, 3, 16, 14, 16, 14]⟩
abbrev S16x16x16x3x14x14 : Shape := ⟨6, ![16, 16, 16, 3, 14, 14]⟩
abbrev S4096x588 : Shape := ⟨2, ![4096, 588]⟩
abbrev S4096x1024 : Shape := ⟨2, ![4096, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1x1024 : Shape := ⟨3, ![2, 1, 1024]⟩
abbrev S_ : Shape := ⟨0, ![]⟩
abbrev S2x16x16x16x1024 : Shape := ⟨5, ![2, 16, 16, 16, 1024]⟩
abbrev S2x16x16x16x1 : Shape := ⟨5, ![2, 16, 16, 16, 1]⟩
abbrev S4x4096x1024 : Shape := ⟨3, ![4, 4096, 1024]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x16x256x16x256 : Shape := ⟨5, ![4, 16, 256, 16, 256]⟩
abbrev S4x16x256x16 : Shape := ⟨4, ![4, 16, 256, 16]⟩
abbrev S4x16x256x5 : Shape := ⟨4, ![4, 16, 256, 5]⟩
abbrev S4x16x256 : Shape := ⟨3, ![4, 16, 256]⟩
abbrev S2x2x16x256 : Shape := ⟨4, ![2, 2, 16, 256]⟩
abbrev S2x16x256 : Shape := ⟨3, ![2, 16, 256]⟩
abbrev S16x256 : Shape := ⟨2, ![16, 256]⟩
abbrev S224x16 : Shape := ⟨2, ![224, 16]⟩
abbrev S224 : Shape := ⟨1, ![224]⟩
abbrev S224x1 : Shape := ⟨2, ![224, 1]⟩
abbrev S16x16x16 : Shape := ⟨3, ![16, 16, 16]⟩
abbrev S224x16x16 : Shape := ⟨3, ![224, 16, 16]⟩
abbrev S224x16x224 : Shape := ⟨3, ![224, 16, 224]⟩
abbrev S16x224x224 : Shape := ⟨3, ![16, 224, 224]⟩
abbrev S16 : Shape := ⟨1, ![16]⟩

abbrev nBuf : Space → Nat
  | .hbm => 156
  | .vmem => 0
  | .smem => 0
  | _ => 0

abbrev hbmTy0_0 (i : Nat) : BufTy := match i % 128 with
  | 0 => ⟨S16x3x224x224, .f32⟩
  | 1 => ⟨S588x1024, .f32⟩
  | 2 => ⟨S1024, .f32⟩
  | 3 => ⟨S2x1024x1024, .f32⟩
  | 4 => ⟨S2x1024, .f32⟩
  | 5 => ⟨S16x3x16x14x16x14, .f32⟩
  | 6 => ⟨S16x16x16x3x14x14, .f32⟩
  | 7 => ⟨S4096x588, .f32⟩
  | 8 => ⟨S4096x1024, .f32⟩
  | 9 => ⟨S1x1024, .f32⟩
  | 10 => ⟨S4096x1024, .f32⟩
  | 11 => ⟨S4096x1024, .f32⟩
  | 12 => ⟨S2x1024x4096, .f32⟩
  | 13 => ⟨S2x4096x1024, .f32⟩
  | 14 => ⟨S2x1x1024, .f32⟩
  | 15 => ⟨S2x4096x1024, .f32⟩
  | 16 => ⟨S2x4096x1024, .f32⟩
  | 17 => ⟨S2x4096x1024, .f32⟩
  | 18 => ⟨S2x4096x1024, .f32⟩
  | 19 => ⟨S_, .f32⟩
  | 20 => ⟨S2x4096x1024, .f32⟩
  | 21 => ⟨S2x4096x1024, .f32⟩
  | 22 => ⟨S2x4096x1024, .f32⟩
  | 23 => ⟨S_, .f32⟩
  | 24 => ⟨S2x4096x1024, .f32⟩
  | 25 => ⟨S2x4096x1024, .f32⟩
  | 26 => ⟨S2x4096x1024, .f32⟩
  | 27 => ⟨S_, .f32⟩
  | 28 => ⟨S2x4096x1024, .f32⟩
  | 29 => ⟨S2x4096x1024, .f32⟩
  | 30 => ⟨S_, .f32⟩
  | 31 => ⟨S2x4096x1024, .f32⟩
  | 32 => ⟨S2x4096x1024, .f32⟩
  | 33 => ⟨S2x4096x1024, .f32⟩
  | 34 => ⟨S2x16x16x16x1024, .f32⟩
  | 35 => ⟨S_, .f32⟩
  | 36 => ⟨S_, .f32⟩
  | 37 => ⟨S2x16x16x16x1024, .f32⟩
  | 38 => ⟨S_, .f32⟩
  | 39 => ⟨S2x16x16x16x1, .f32⟩
  | 40 => ⟨S_, .f32⟩
  | 41 => ⟨S_, .f32⟩
  | 42 => ⟨S2x16x16x16x1, .f32⟩
  | 43 => ⟨S2x16x16x16x1024, .f32⟩
  | 44 => ⟨S2x16x16x16x1024, .f32⟩
  | 45 => ⟨S2x4096x1024, .f32⟩
  | 46 => ⟨S4x4096x1024, .f32⟩
  | 47 => ⟨S4x4096x1024, .f32⟩
  | 48 => ⟨S_, .f32⟩
  | 49 => ⟨S4x4096, .f32⟩
  | 50 => ⟨S4x4096x1, .f32⟩
  | 51 => ⟨S4x1x4096, .f32⟩
  | 52 => ⟨S4x4096x4096, .f32⟩
  | 53 => ⟨S4x4096x4096, .f32⟩
  | 54 => ⟨S4x4096x4096, .f32⟩
  | 55 => ⟨S4x4096x4096, .f32⟩
  | 56 => ⟨S_, .f32⟩
  | 57 => ⟨S4x4096x4096, .f32⟩
  | 58 => ⟨S4x4096x4096, .f32⟩
  | 59 => ⟨S4x4096x4096, .f32⟩
  | 60 => ⟨S4x16x256x16x256, .f32⟩
  | 61 => ⟨S4x16x256x16x256, .i32⟩
  | 62 => ⟨S4x16x256x16x256, .i32⟩
  | 63 => ⟨S4x16x256x16x256, .i1⟩
  | 64 => ⟨S_, .f32⟩
  | 65 => ⟨S_, .f32⟩
  | 66 => ⟨S4x16x256x16x256, .f32⟩
  | 67 => ⟨S4x16x256x16x256, .f32⟩
  | 68 => ⟨S_, .f32⟩
  | 69 => ⟨S4x16x256x16, .f32⟩
  | 70 => ⟨S_, .f32⟩
  | 71 => ⟨S4x16x256x16, .f32⟩
  | 72 => ⟨S4x16x256x16, .f32⟩
  | 73 => ⟨S4x16x256x16, .f32⟩
  | 74 => ⟨S4x16x256x16, .f32⟩
  | 75 => ⟨S4x16x256x5, .f32⟩
  | 76 => ⟨S_, .f32⟩
  | 77 => ⟨S4x16x256, .f32⟩
  | 78 => ⟨S_, .f32⟩
  | 79 => ⟨S4x16x256, .f32⟩
  | 80 => ⟨S4x16x256, .f32⟩
  | 81 => ⟨S2x2x16x256, .f32⟩
  | 82 => ⟨S_, .f32⟩
  | 83 => ⟨S2x16x256, .f32⟩
  | 84 => ⟨S_, .f32⟩
  | 85 => ⟨S2x16x256, .f32⟩
  | 86 => ⟨S2x16x256, .f32⟩
  | 87 => ⟨S_, .f32⟩
  | 88 => ⟨S16x256, .f32⟩
  | 89 => ⟨S_, .f32⟩
  | 90 => ⟨S16x256, .f32⟩
  | 91 => ⟨S16x256, .f32⟩
  | 92 => ⟨S224x16, .i32⟩
  | 93 => ⟨S224x16, .f32⟩
  | 94 => ⟨S224x16, .i32⟩
  | 95 => ⟨S224x16, .f32⟩
  | 96 => ⟨S_, .f32⟩
  | 97 => ⟨S224x16, .f32⟩
  | 98 => ⟨S224x16, .f32⟩
  | 99 => ⟨S_, .f32⟩
  | 100 => ⟨S224x16, .f32⟩
  | 101 => ⟨S224x16, .f32⟩
  | 102 => ⟨S_, .f32⟩
  | 103 => ⟨S224x16, .f32⟩
  | 104 => ⟨S224x16, .f32⟩
  | 105 => ⟨S_, .f32⟩
  | 106 => ⟨S224x16, .f32⟩
  | 107 => ⟨S224x16, .f32⟩
  | 108 => ⟨S224x16, .f32⟩
  | 109 => ⟨S224x16, .f32⟩
  | 110 => ⟨S_, .f32⟩
  | 111 => ⟨S224x16, .f32⟩
  | 112 => ⟨S224x16, .f32⟩
  | 113 => ⟨S_, .f32⟩
  | 114 => ⟨S224x16, .f32⟩
  | 115 => ⟨S224x16, .f32⟩
  | 116 => ⟨S_, .f32⟩
  | 117 => ⟨S224, .f32⟩
  | 118 => ⟨S224x1, .f32⟩
  | 119 => ⟨S224x16, .f32⟩
  | 120 => ⟨S224x16, .f32⟩
  | 121 => ⟨S224x16, .i32⟩
  | 122 => ⟨S224x16, .f32⟩
  | 123 => ⟨S224x16, .i32⟩
  | 124 => ⟨S224x16, .f32⟩
  | 125 => ⟨S_, .f32⟩
  | 126 => ⟨S224x16, .f32⟩
  | 127 => ⟨S224x16, .f32⟩
  | _ => ⟨S16x3x224x224, .f32⟩

abbrev hbmTy0_1 (i : Nat) : BufTy := match i % 128 with
  | 0 => ⟨S_, .f32⟩
  | 1 => ⟨S224x16, .f32⟩
  | 2 => ⟨S224x16, .f32⟩
  | 3 => ⟨S_, .f32⟩
  | 4 => ⟨S224x16, .f32⟩
  | 5 => ⟨S224x16, .f32⟩
  | 6 => ⟨S_, .f32⟩
  | 7 => ⟨S224x16, .f32⟩
  | 8 => ⟨S224x16, .f32⟩
  | 9 => ⟨S224x16, .f32⟩
  | 10 => ⟨S224x16, .f32⟩
  | 11 => ⟨S_, .f32⟩
  | 12 => ⟨S224x16, .f32⟩
  | 13 => ⟨S224x16, .f32⟩
  | 14 => ⟨S_, .f32⟩
  | 15 => ⟨S224x16, .f32⟩
  | 16 => ⟨S224x16, .f32⟩
  | 17 => ⟨S_, .f32⟩
  | 18 => ⟨S224, .f32⟩
  | 19 => ⟨S224x1, .f32⟩
  | 20 => ⟨S224x16, .f32⟩
  | 21 => ⟨S224x16, .f32⟩
  | 22 => ⟨S16x16x16, .f32⟩
  | 23 => ⟨S224x16x16, .f32⟩
  | 24 => ⟨S224x16x224, .f32⟩
  | 25 => ⟨S16x224x224, .f32⟩
  | 26 => ⟨S_, .f32⟩
  | 27 => ⟨S16, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_call0_v0 : Ref sig .tc := ⟨.hbm, 65, rfl⟩
abbrev main_call0_v1 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_v75 : Ref sig .tc := ⟨.hbm, 103, rfl⟩
abbrev main_v76 : Ref sig .tc := ⟨.hbm, 104, rfl⟩
abbrev main_cst_20 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_24 : Ref sig .tc := ⟨.hbm, 125, rfl⟩
abbrev main_v93 : Ref sig .tc := ⟨.hbm, 126, rfl⟩
abbrev main_v94 : Ref sig .tc := ⟨.hbm, 127, rfl⟩
abbrev main_cst_25 : Ref sig .tc := ⟨.hbm, 128, rfl⟩
abbrev main_v95 : Ref sig .tc := ⟨.hbm, 129, rfl⟩
abbrev main_v96 : Ref sig .tc := ⟨.hbm, 130, rfl⟩
abbrev main_cst_26 : Ref sig .tc := ⟨.hbm, 131, rfl⟩
abbrev main_v97 : Ref sig .tc := ⟨.hbm, 132, rfl⟩
abbrev main_v98 : Ref sig .tc := ⟨.hbm, 133, rfl⟩
abbrev main_cst_27 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_28 : Ref sig .tc := ⟨.hbm, 139, rfl⟩
abbrev main_v103 : Ref sig .tc := ⟨.hbm, 140, rfl⟩
abbrev main_v104 : Ref sig .tc := ⟨.hbm, 141, rfl⟩
abbrev main_cst_29 : Ref sig .tc := ⟨.hbm, 142, rfl⟩
abbrev main_v105 : Ref sig .tc := ⟨.hbm, 143, rfl⟩
abbrev main_v106 : Ref sig .tc := ⟨.hbm, 144, rfl⟩
abbrev main_cst_30 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_31 : Ref sig .tc := ⟨.hbm, 154, rfl⟩
abbrev main_v115 : Ref sig .tc := ⟨.hbm, 155, rfl⟩

abbrev nD : Nat := 1
abbrev τ : Topo := Topo.v7x

variable {F : FTy → Type} [FloatOps F]
-- ==== Proof.Stage.lean ====
/-
  The stages of a program that alternates host operations and pipelined kernels, stated over ALL the contents of the
  core's buffers at once.  Between two stages the core holds every unscoped buffer at SOME valuation satisfying a
  predicate; a host stretch carries the predicate through `StableHlo.after`, a kernel carries it through `Step`: the
  arrays of the kernel's windows end at contents the proof data allow, every other buffer ends as it began.  Because the
  valuation is bound, the proof data of a later kernel may depend on contents only the run decides.
-/
module

public import Idealize.ShloMosaic.Lib.Pipeline.RegionsOwned
public import Idealize.ShloMosaic.Lib.Pipeline.RegionArrays
public import Idealize.ShloMosaic.Lib.Pipeline.Frame
public import Idealize.ShloMosaic.Lib.Tactic

@[expose] public section

noncomputable section

namespace Cert.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- Values at the points of an injective family extend any dependent function. -/
theorem exists_extend {ι β : Type} {T : β → Type} (f : ι → β) (hf : Function.Injective f) (G : (i : ι) → T (f i))
    (V : (b : β) → T b) : ∃ V' : (b : β) → T b, (∀ i, V' (f i) = G i) ∧ ∀ b, (∀ i, b ≠ f i) → V' b = V b := by
  classical
  refine ⟨fun b => if h : ∃ i, f i = b then h.choose_spec ▸ G h.choose else V b, fun i => ?_, fun b hb => ?_⟩
  · have h : ∃ j, f j = f i := ⟨i, rfl⟩
    have key : ∀ (j : ι) (e : f j = f i), (e ▸ G j : T (f i)) = G i := fun j e => by
      obtain rfl := hf e; rfl
    simp only [dif_pos h]
    exact key _ _
  · have h : ¬ ∃ i, f i = b := fun ⟨i, e⟩ => hb i e.symm
    simp only [dif_neg h]

variable {nD : Nat} {τ : Topo} {sig : RefSig} {Val : EltTy → Type} {Λ₀ : Idealize.SL.Sem.Labels} {P : Type} [Fintype P]
variable {U : Type} [URA U]

local notation "𝕄" => MT nD τ sig Unit Val ℕ U ℕ

variable (cfgs : P → Cfg sig Λ₀) (defs₀ : Defs nD τ sig Val Λ₀)

/-- No pipeline of the program has a prefetched table. -/
abbrev pcs (p : P) : PCfg sig Λ₀ Val := (cfgs p).toPCfg

/-- The tables' admissible contents: none. -/
abbrev adm (p : P) : (pcs (Val := Val) cfgs p).Adm := (cfgs p).toPCfg_adm

/-- No level is assigned: no core owes another anything. -/
abbrev L : GSem nD τ sig → Finset Unit := fun _ => ∅
abbrev lv : GSem nD τ sig → Unit → ℕ := fun _ _ => 0

/-- Core `c` owes nothing. -/
abbrev idle (c : Dev nD) : sProp 𝕄 := iprop(∃ W, owes (c : Thread nD τ) (0 : CellTallies nD τ sig Unit) W)

/-- Core `c` holds every unscoped buffer, at some valuation satisfying `Q`. -/
abbrev some (Q : Valuation τ sig Val → Prop) (c : Dev nD) : sProp 𝕄 :=
  iprop(∃ V, ⌜Q V⌝ ∗ StableHlo.held (c : Thread nD τ) (Pipeline.ucRefs τ sig) V)

/-- What is left of the valuations satisfying `Q` after a host stretch. -/
def Post (ops : List (HloOp τ sig Val)) (Q : Valuation τ sig Val → Prop) : Valuation τ sig Val → Prop :=
  fun V' => ∃ V, Q V ∧ V' = StableHlo.after ops V

set_option backward.isDefEq.respectTransparency.types false in
/-- A host stretch from some valuation satisfying `Q`. -/
def host (ops : List (HloOp τ sig Val)) (hS : ∀ op ∈ ops, op.bufs ⊆ Pipeline.ucRefs τ sig) (hf : ∀ op ∈ ops, op.fresh = ∅)
    (Q : Dev nD → Valuation τ sig Val → Prop) (R : Dev nD → sProp 𝕄) :
    HostSeg (Ix := Unit) (Name := ℕ) (U := U) (Lvl := ℕ) (pcs cfgs) defs₀ Variants.none L lv where
  prog := StableHlo.seq ops
  pre c := iprop(some (Q c) c ∗ R c)
  post c := iprop(some (Post ops (Q c)) c ∗ R c)
  run c {β} k K := by
    have hseq := fun V => StableHlo.wp_seq (defs := Pipeline.defs (pcs cfgs) defs₀) (Variants.lift Variants.none) none Set.univ c
      (Pipeline.ucRefs τ sig) k (K := K) ops hS hf V
    iintro ⟨Hk, Hbd, ⟨⟨%V, %hV, Hh⟩, HR⟩, -⟩
    iapply (hseq V) $$ [Hbd Hh]
    · isplitl [Hbd] <;> iassumption
    iintro ⟨Hbd, Hh⟩
    iapply Hk
    isplitl [Hbd]; · iexact Hbd
    isplitl [Hh]
    · iexists _; isplitr; swap; · iexact Hh
      ipureintro; exact ⟨V, hV, rfl⟩
    iexact HR

/-- Pipeline `p`'s configuration. -/
abbrev cfgOf (p : P) : Cfg sig Λ₀ := pin (pcs (Val := Val) cfgs) (adm cfgs) p

/-- The facts about pipeline `p` its stage needs: the launch's layout, and proof data at every entry valuation whose
    arrays are the valuation's, whose invariant is the scoped rest, which owe nothing and hold full shares, with the body
    obligation. -/
structure Facts (p : P) where
  win : WinFacts (cfgOf (Val := Val) cfgs p).spec
  block_pos : ∀ w : Fin (cfgOf (Val := Val) cfgs p).W, 0 < ((cfgOf (Val := Val) cfgs p).spec w).block.numel
  arr_whole : ∀ w, ((cfgOf (Val := Val) cfgs p).spec w).arr.IsWhole
  stage_whole : ∀ (w : Fin (cfgOf (Val := Val) cfgs p).W) (s : Fin ((cfgOf (Val := Val) cfgs p).spec w).nbuf),
    (((cfgOf (Val := Val) cfgs p).spec w).stage s).IsWhole
  dat : Valuation τ sig Val → (c : Dev nD) → RDat τ Val Unit ℕ U ℕ (cfgOf (Val := Val) cfgs p) c
  hA : ∀ V c w, (dat V c).A w = V (arrRef (cfgOf (Val := Val) cfgs p).spec w)
  hΦ : ∀ V c t, (dat V c).Φ t = scopedRest (cfgOf (Val := Val) cfgs p).spec c
  howed : ∀ V c t, (dat V c).owed t = 0
  hrec : ∀ V c t, (dat V c).recorded t = Set.univ
  hshare : ∀ V c w, (dat V c).share w = fullShare
  hbody : ∀ V c, (dat V c).BodyObligation defs₀ Variants.none () Set.univ

variable {cfgs defs₀}

/-- What pipeline `p` may leave of valuation `V`: its windows' arrays at contents the proof data allow after the last
    write-back, every other buffer as it was. -/
def Step {p : P} (A : Facts (nD := nD) (τ := τ) (U := U) (Val := Val) cfgs defs₀ p) (c : Dev nD) (V V' : Valuation τ sig Val) : Prop :=
  (∀ w, (A.dat V c).ArrAt w (cfgOf (Val := Val) cfgs p).N (V' (arrRef (cfgOf (Val := Val) cfgs p).spec w)))
    ∧ ∀ b : DevRef τ sig, (∀ w, b ≠ Proc.devRef .tc (arrRef (cfgOf (Val := Val) cfgs p).spec w)) → V' b = V b

/-- What is left of the valuations satisfying `Q` after pipeline `p`. -/
def Ran {p : P} (A : Facts (nD := nD) (τ := τ) (U := U) (Val := Val) cfgs defs₀ p) (c : Dev nD) (Q : Valuation τ sig Val → Prop) :
    Valuation τ sig Val → Prop :=
  fun V' => ∃ V, Q V ∧ Step A c V V'

section Region

variable [DecidableEq P] [∀ e, Nonempty (Val e)] {p : P} (A : Facts (nD := nD) (τ := τ) (U := U) (Val := Val) cfgs defs₀ p)

/-- The program's proof data with pipeline `p`'s given: anything elsewhere. -/
abbrev family (V : Valuation τ sig Val) :
    (q : P) → (c : Dev nD) → RDat τ Val Unit ℕ U ℕ (pin (pcs (Val := Val) cfgs) (adm cfgs) q) c :=
  RDat.familyOf (pcs cfgs) (adm cfgs) p (A.dat V)

omit [Fintype P] in
theorem family_self (V : Valuation τ sig Val) (c : Dev nD) : family A V p c = A.dat V c :=
  RDat.familyOf_self (pcs cfgs) (adm cfgs) p (A.dat V) c

set_option backward.isDefEq.respectTransparency.types false in
/-- Pipeline `p` entered from valuation `V`. -/
def regionAt (V : Valuation τ sig Val) :
    RDat.RegionSeg (pcs cfgs) (adm cfgs) (family A V) () defs₀ Variants.none L lv p where
  win := A.win.to₀
  block_pos := A.block_pos
  stage_whole := A.stage_whole
  K := PEmpty
  osem k := k.elim
  ho := OwnSemFacts.none _
  hbody c := by rw [family_self]; exact A.hbody V c
  hwaits c := RDat.hwaits_of_owed_zero (pcs cfgs) (adm cfgs) (family A V) () L lv p
    (fun c t => by rw [family_self]; exact A.howed V c t) c
  pre c := iprop(StableHlo.held (c : Thread nD τ) (Pipeline.ucRefs τ sig) V ∗ idle c)
  post c := iprop(some (Step A c V) c ∗ idle c)
  X _ := BI.emp
  Y _ := BI.emp
  Z c := Pipeline.unscopedRest (Ix := Unit) (Name := ℕ) (U := U) (Lvl := ℕ) (cfgOf (Val := Val) cfgs p).spec c (fun b => V b)
  hentry c := by
    rw [Pipeline.ownSems0_none]
    have hsplit := RDat.arrays_of_unscopedBufs (p := p) (pcs cfgs) (adm cfgs) (family A V) A.win A.arr_whole c
      (fun w => by rw [family_self]; exact A.hshare V c w) (fun b => V b) (fun w => by rw [family_self]; exact A.hA V c w)
    rw [← Pipeline.unscopedBufs_held]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [family_self]
      unfold RDat.owesAt Pipeline.owesWithin
      rw [A.howed]
      icases HO with ⟨%W, HO⟩; iexists W; isplitr; · ipureintro; exact fun _ _ => Or.inl (by rw [A.hrec]; trivial)
      iexact HO
    isplitr; · iempintro
    iexact Hrest
  hin c := by
    rw [family_self, A.hΦ]
    iintro ⟨-, -, Hr⟩; iexact Hr
  hout c := by
    rw [Pipeline.ownSems0_none, family_self, A.hΦ]
    iintro Hr
    isplitr; · iempintro
    isplitr; · iempintro
    iexact Hr
  hexit c := by
    have hat := RDat.arraysAt_eq (pcs cfgs) (adm cfgs) (family A V) p c A.arr_whole
      (fun w => by rw [family_self]; exact A.hshare V c w) (cfgOf (Val := Val) cfgs p).N
    rw [hat]
    iintro ⟨Ha, HO, -, Hrest⟩
    ihave Ha := (BI.bigSep_exists_pi Finset.univ (fun (w : Fin (cfgOf (Val := Val) cfgs p).W) F => iprop(⌜(family A V p c).ArrAt w (cfgOf (Val := Val) cfgs p).N F⌝
      ∗ (((c.tc : Thread nD τ).loc (arrRef (cfgOf (Val := Val) cfgs p).spec w)) ↦{fullShare} F : sProp 𝕄)))) $$ Ha
    icases Ha with ⟨%G, Ha⟩
    ihave Ha := (BI.bigSep_pure_sep Finset.univ (fun w : Fin (cfgOf (Val := Val) cfgs p).W => (family A V p c).ArrAt w (cfgOf (Val := Val) cfgs p).N (G w))
      (fun w => (((c.tc : Thread nD τ).loc (arrRef (cfgOf (Val := Val) cfgs p).spec w)) ↦{fullShare} G w : sProp 𝕄))) $$ Ha
    icases Ha with ⟨%hG, Ha⟩
    obtain ⟨V', hV', hne⟩ := exists_extend (T := fun b : DevRef τ sig => b.ty.Contents Val)
      (fun w : Fin (cfgOf (Val := Val) cfgs p).W => Proc.devRef .tc (arrRef (cfgOf (Val := Val) cfgs p).spec w))
      (fun w w' h => A.win.arr_inj (Proc.devRef_injective _ h)) G V
    imodintro
    isplitl [Ha Hrest]
    · iexists V'
      isplitr
      · ipureintro
        refine ⟨fun w => ?_, hne⟩
        rw [hV', ← family_self A V c]
        exact hG w (Finset.mem_univ w)
      rw [← Pipeline.unscopedBufs_held, unscopedBufs_split (pin (pcs cfgs) (adm cfgs)) p A.win.arr_unscoped A.win.arr_inj c]
      isplitl [Ha]
      · rw [show (fun w : Fin (cfgOf (Val := Val) cfgs p).W => (((c.tc : Thread nD τ).loc (arrRef (cfgOf (Val := Val) cfgs p).spec w)) ↦{fullShare} G w : sProp 𝕄))
          = fun w => (((c.tc : Thread nD τ).loc (arrRef (cfgOf (Val := Val) cfgs p).spec w)) ↦{fullShare} V' (arrRef (cfgOf (Val := Val) cfgs p).spec w) : sProp 𝕄)
          from funext fun w => by rw [hV']]
        iexact Ha
      have hrest : Pipeline.unscopedRest (Ix := Unit) (Name := ℕ) (U := U) (Lvl := ℕ) (cfgOf (Val := Val) cfgs p).spec c (fun b => V b)
          = Pipeline.unscopedRest (Ix := Unit) (Name := ℕ) (U := U) (Lvl := ℕ) (cfgOf (Val := Val) cfgs p).spec c (fun b => V' b) := by
        unfold Pipeline.unscopedRest
        refine BI.bigSep_congr fun b hb => ?_
        dsimp only
        rw [hne b fun w h => (Finset.mem_sdiff.mp hb).2 (Finset.mem_image.mpr ⟨w, Finset.mem_univ _, (Proc.devRef_injective _ h).symm⟩)]
      rw [← hrest]
      iexact Hrest
    rw [family_self]
    unfold RDat.owesAt Pipeline.owesWithin
    rw [A.howed]
    icases HO with ⟨%W, -, HO⟩; iexists W; iexact HO

variable {A} in
/-- The step leaves a reference that is no output's array as it was. -/
theorem Step.keep {c : Dev nD} {V V' : Valuation τ sig Val} (h : Step A c V V') {r : Ref sig .tc}
    (hr : ∀ w, r = arrRef (cfgOf (Val := Val) cfgs p).spec w → ((cfgOf (Val := Val) cfgs p).win w).isOut = false) :
    V' (Proc.devRef .tc r) = V (Proc.devRef .tc r) := by
  by_cases hw : ∃ w, r = arrRef (cfgOf (Val := Val) cfgs p).spec w
  · obtain ⟨w, rfl⟩ := hw
    have h' := h.1 w
    rw [RDat.ArrAt_in _ w (hr w rfl)] at h'
    exact h'.trans (A.hA V c w)
  · exact h.2 _ fun w e => hw ⟨w, Proc.devRef_injective _ e⟩

variable (phinj : Function.Injective (cellOf (nD := nD) (τ := τ) (pin (pcs (Val := Val) cfgs) (adm cfgs))))
variable (EP : Emb (URounds (GSem nD τ sig) Unit) (MT nD τ sig Unit Val ℕ U ℕ)) [EP.LandsIn (upEmb : UEmb _ (MT nD τ sig Unit Val ℕ U ℕ))]

/-- Pipeline `p`'s cells and transfer tokens as the launch leaves them. -/
abbrev tickets (q : P) (c : Dev nD) : sProp 𝕄 :=
  iprop(cellsGhost (pin (pcs (Val := Val) cfgs) (adm cfgs)) EP q c ∗ toksInit (pin (pcs (Val := Val) cfgs) (adm cfgs)) EP q c)

set_option backward.isDefEq.respectTransparency.types false in
/-- Pipeline `p` from some valuation satisfying `Q`, paid from the tickets. -/
def region (Q : Dev nD → Valuation τ sig Val → Prop) (R : Dev nD → sProp 𝕄) :
    HostSeg (Ix := Unit) (Name := ℕ) (U := U) (Lvl := ℕ) (pcs cfgs) defs₀ Variants.none L lv where
  prog := Prog.lift (.customCall (Pipeline.entry p) ())
  pre c := iprop(some (Q c) c ∗ (idle c ∗ tickets (cfgs := cfgs) EP p c) ∗ R c)
  post c := iprop(some (Ran A c (Q c)) c ∗ idle c ∗ R c)
  run c {β} k K := by
    have hwp := fun V => RDat.RegionSeg.wp (pcs cfgs) (adm cfgs) (family A V) () phinj EP defs₀ Variants.none L lv
      (regionAt A V) c none (fun u h => nomatch h) k K
    have hpre : ∀ V, (regionAt A V).pre c = iprop(StableHlo.held (c : Thread nD τ) (Pipeline.ucRefs τ sig) V ∗ idle c) := fun _ => rfl
    have hpost : ∀ V, (regionAt A V).post c = iprop(some (Step A c V) c ∗ idle c) := fun _ => rfl
    simp only [hpre, hpost] at hwp
    rw [show (Prog.lift (.customCall (Pipeline.entry p) ()) >>= k : Prog (TpuEff nD τ sig Val (Pipeline.Sig Λ₀ P fun p => (pcs (Val := Val) cfgs p).Adm) .tc) β)
      = .op (.customCall (Pipeline.entry p) ()) k from rfl]
    iintro ⟨Hk, Hbd, ⟨⟨%V, %hV, Hh⟩, ⟨HO, HT⟩, HR⟩, Hl⟩
    iapply (hwp V)
    isplitl [Hk HR]
    · iintro ⟨Hbd, ⟨⟨%V', %hV', Hh⟩, HO⟩⟩
      iapply Hk
      isplitl [Hbd]; · iexact Hbd
      isplitl [Hh]
      · iexists V'; isplitr; swap; · iexact Hh
        ipureintro; exact ⟨V, hV, hV'⟩
      isplitl [HO]; · iexact HO
      iexact HR
    isplitl [Hbd]; · iexact Hbd
    isplitl [Hh HO]; · isplitl [Hh] <;> iassumption
    isplitl [Hl]; · iexact Hl
    iexact HT

end Region

section Launch

variable [DecidableEq P] [∀ e, Nonempty (Val e)]

local notation "UU" => URounds (GSem nD τ sig) Unit × URounds (GSem nD τ sig) Unit

/-- Proof data naming nothing, for a launch whose segments bring their own. -/
abbrev nothing : (q : P) → (c : Dev nD) → RDat τ Val Unit ℕ UU ℕ (pin (pcs (Val := Val) cfgs) (adm cfgs) q) c := fun _ _ =>
  { A := fun _ => Classical.arbitrary _, after := fun _ _ _ _ => True, Φ := fun _ => BI.emp, q := fun _ => fullShare, owed := fun _ => 0 }

/-- All the pipelines' tickets, dealt by the right component. -/
abbrev allTickets (c : Dev nD) : sProp (MT nD τ sig Unit Val ℕ UU ℕ) :=
  bigSep Finset.univ fun q : P => tickets (cfgs := cfgs) (embR : Emb _ (MT nD τ sig Unit Val ℕ UU ℕ)) q c

set_option backward.isDefEq.respectTransparency.types false in
/-- THE LAUNCH: a program that is a list of stages, chained from the launch memory's valuation and every pipeline's tickets
    to some valuation satisfying `Q`, ends with every core's memory holding such a valuation in its unscoped buffers and every
    counter at zero. -/
theorem launch (phinj : Function.Injective (cellOf (nD := nD) (τ := τ) (pin (pcs (Val := Val) cfgs) (adm cfgs))))
    (hsc : ∀ sm : SemLoc sig, sm.isScoped .tc = true)
    (m : (ℓ : Loc nD τ sig) → Buf Val ℓ) (g : Dev nD → PrngReg)
    (main : Dev nD → Prog (TpuEff nD τ sig Val (Pipeline.Sig Λ₀ P fun p => (pcs (Val := Val) cfgs p).Adm) .tc) PUnit)
    (segs : List (RDat.Seg (Ix := Unit) (Name := ℕ) (U := UU) (Lvl := ℕ) (pcs cfgs) (adm cfgs) (nothing (cfgs := cfgs)) () defs₀ Variants.none L lv))
    (hmain : ∀ c (Q : PUnit → sProp (MT nD τ sig Unit Val ℕ UU ℕ)),
      wp frame (wpE (Pipeline.defs (pcs cfgs) defs₀) (Variants.lift Variants.none) (c.tc : Thread nD τ) none) Set.univ (RDat.Seg.run segs) Q
      ⊢ wp frame (wpE (Pipeline.defs (pcs cfgs) defs₀) (Variants.lift Variants.none) (c.tc : Thread nD τ) none) Set.univ (main c) Q)
    (hnd : (RDat.Seg.pipes segs).Nodup)
    (Q : Dev nD → Valuation τ sig Val → Prop)
    (hch : ∀ c, RDat.Seg.ChainsAt c
      (fun c => iprop(some (fun V => V = fun b => m ((c : Thread nD τ).1, b)) c ∗ idle c ∗ allTickets (cfgs := cfgs) c)) segs
      (fun c => iprop(some (Q c) c ∗ idle c))) :
    θ_run (Pipeline.defs (pcs cfgs) defs₀) (onTc main) ⟨m, fun _ => 0, g⟩ fun r =>
      (∀ c : Dev nD, ∃ V, Q c V ∧ ∀ b ∈ Pipeline.ucRefs τ sig, r.2.mem ((c : Thread nD τ).1, b) = V b) ∧ r.2.sem = fun _ => 0 := by
  refine RDat.θ_run_regions_kit_dev_sems (pcs cfgs) (adm cfgs) (nothing (cfgs := cfgs)) () phinj embL defs₀ Variants.none L lv m g main
    (fun _ => segs) hmain (fun _ => hnd) (fun _ => 0) (fun _ _ => rfl)
    (fun c => allTickets (cfgs := cfgs) c)
    (initOf (cells (pin (pcs cfgs) (adm cfgs)) phinj) (launchToks (pin (pcs cfgs) (adm cfgs)) phinj),
      initOf (cells (pin (pcs cfgs) (adm cfgs)) phinj) (launchToks (pin (pcs cfgs) (adm cfgs)) phinj))
    ?_ (fun c => iprop(some (fun V => V = fun b => m ((c : Thread nD τ).1, b)) c ∗ idle c ∗ allTickets (cfgs := cfgs) c)) (fun c => some (Q c) c) hch ?_
    (fun c s => ∃ V, Q c V ∧ ∀ b ∈ Pipeline.ucRefs τ sig, s.mem ((c : Thread nD τ).1, b) = V b) (fun c s' => ?_)
    (hQ := fun s h hz => ⟨h, funext fun g' => hz g' (.inr (hsc g'.2))⟩)
  · iintro Hu
    ihave H := (ownU_pair _ _) $$ Hu
    icases H with ⟨HP, HX⟩
    imod (fund_ghost (pin (pcs cfgs) (adm cfgs)) embR phinj) $$ HX with H
    icases H with ⟨Hc, Ht⟩
    imodintro
    isplitl [HP]; · iexact HP
    unfold allTickets tickets
    rw [show (fun c : Dev nD => bigSep Finset.univ fun q : P => iprop(cellsGhost (pin (pcs (Val := Val) cfgs) (adm cfgs)) (embR : Emb _ (MT nD τ sig Unit Val ℕ UU ℕ)) q c
        ∗ toksInit (pin (pcs (Val := Val) cfgs) (adm cfgs)) (embR : Emb _ (MT nD τ sig Unit Val ℕ UU ℕ)) q c))
      = fun c : Dev nD => iprop((bigSep Finset.univ fun q : P => cellsGhost (pin (pcs (Val := Val) cfgs) (adm cfgs)) (embR : Emb _ (MT nD τ sig Unit Val ℕ UU ℕ)) q c)
        ∗ bigSep Finset.univ fun q : P => toksInit (pin (pcs (Val := Val) cfgs) (adm cfgs)) (embR : Emb _ (MT nD τ sig Unit Val ℕ UU ℕ)) q c)
      from funext fun c => bigSep_sep' .., bigSep_sep']
    isplitl [Hc] <;> iassumption
  · iintro ⟨H, -⟩
    imodintro
    have hone : ∀ c : Dev nD, iprop(unscopedBufs c (fun b => m ((c.tc : Thread nD τ).loc b)) ∗ unscopedSems0 c
          ∗ owes (c.tc : Thread nD τ) (0 : CellTallies nD τ sig Unit) ∅ ∗ launchCred (fun _ => 0) c ∗ prngReg c (g c) ∗ allTickets (cfgs := cfgs) c)
        ⊢ (iprop(some (fun V => V = fun b => m ((c : Thread nD τ).1, b)) c ∗ idle c ∗ allTickets (cfgs := cfgs) c) : sProp (MT nD τ sig Unit Val ℕ UU ℕ)) := fun c => by
      iintro ⟨Hb, -, HO, -, -, HT⟩
      isplitl [Hb]
      · iexists fun b => m ((c : Thread nD τ).1, b)
        isplitr; · ipureintro; rfl
        rw [← Pipeline.unscopedBufs_held]
        iexact Hb
      isplitl [HO]; · iexists ∅; iexact HO
      iexact HT
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ launchCred (fun _ => 0) c ∗ prngReg c (g c) ∗ allTickets (cfgs := cfgs) c))
        ⊢ (bigSep Finset.univ fun c : Dev nD => iprop(some (fun V => V = fun b => m ((c : Thread nD τ).1, b)) c ∗ idle c ∗ allTickets (cfgs := cfgs) c) :
          sProp (MT nD τ sig Unit Val ℕ UU ℕ)) :=
      bigSep_mono fun c _ => hone c
    iapply hall
    iexact H
  · unfold some StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro; exact ⟨V, hV, h⟩
    · iexact HSI

end Launch

end Cert.Stage

end
-- ==== Proof.Ideal.First.lean ====
module

public import proofs.«01_k».proof.Proof.Stage
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- membership in a rectangle of production extents is decided coordinate by coordinate
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

/-! ## The first kernel: embedding, two layers, pooling

Its accesses, what it leaves in each output window, its run, its proof data and its obligation. -/

abbrev rX0 : Rect S4x256x588 := Rect.unit (s := S4x256x588) ![0, 0, 0] S4x256x588.size inb_S4x256x588_S4x256x588_0_0_0
abbrev rX1 : Rect S588x1024 := Rect.unit (s := S588x1024) ![0, 0] S588x1024.size inb_S588x1024_S588x1024_0_0
abbrev rX2 : Rect S1024 := Rect.unit (s := S1024) ![0] S1024.size inb_S1024_S1024_0
abbrev rX3a : Rect S2x1024x1024 := Rect.unit (s := S2x1024x1024) ![0, 0, 0] S1x1024x1024.size inb_S2x1024x1024_S1x1024x1024_0_0_0
abbrev rX3b : Rect S2x1024x1024 := Rect.unit (s := S2x1024x1024) ![1, 0, 0] S1x1024x1024.size inb_S2x1024x1024_S1x1024x1024_1_0_0
abbrev rX4a : Rect S2x1024 := Rect.unit (s := S2x1024) ![0, 0] S1x1024.size inb_S2x1024_S1x1024_0_0
abbrev rX4b : Rect S2x1024 := Rect.unit (s := S2x1024) ![1, 0] S1x1024.size inb_S2x1024_S1x1024_1_0
abbrev rX5 : Rect S256x256 := Rect.unit (s := S256x256) ![0, 0] S256x256.size inb_S256x256_S256x256_0_0
abbrev rF0 : Rect S4x4x256x1024 := Rect.unit (s := S4x4x256x1024) ![0, 0, 0, 0] S1x4x256x1024.size inb_S4x4x256x1024_S1x4x256x1024_0_0_0_0
abbrev rB0 : Rect S4x4x256x128 := Rect.unit (s := S4x4x256x128) ![0, 0, 0, 0] S1x4x256x128.size inb_S4x4x256x128_S1x4x256x128_0_0_0_0
abbrev rL0 : Rect S4x1x1024 := Rect.unit (s := S4x1x1024) ![0, 0, 0] S1x1x1024.size inb_S4x1x1024_S1x1x1024_0_0_0
abbrev rF1 : Rect S4x4x256x1024 := Rect.unit (s := S4x4x256x1024) ![1, 0, 0, 0] S1x4x256x1024.size inb_S4x4x256x1024_S1x4x256x1024_1_0_0_0
abbrev rB1 : Rect S4x4x256x128 := Rect.unit (s := S4x4x256x128) ![1, 0, 0, 0] S1x4x256x128.size inb_S4x4x256x128_S1x4x256x128_1_0_0_0
abbrev rL1 : Rect S4x1x1024 := Rect.unit (s := S4x1x1024) ![1, 0, 0] S1x1x1024.size inb_S4x1x1024_S1x1x1024_1_0_0
abbrev rF2 : Rect S4x4x256x1024 := Rect.unit (s := S4x4x256x1024) ![2, 0, 0, 0] S1x4x256x1024.size inb_S4x4x256x1024_S1x4x256x1024_2_0_0_0
abbrev rB2 : Rect S4x4x256x128 := Rect.unit (s := S4x4x256x128) ![2, 0, 0, 0] S1x4x256x128.size inb_S4x4x256x128_S1x4x256x128_2_0_0_0
abbrev rL2 : Rect S4x1x1024 := Rect.unit (s := S4x1x1024) ![2, 0, 0] S1x1x1024.size inb_S4x1x1024_S1x1x1024_2_0_0
abbrev rF3 : Rect S4x4x256x1024 := Rect.unit (s := S4x4x256x1024) ![3, 0, 0, 0] S1x4x256x1024.size inb_S4x4x256x1024_S1x4x256x1024_3_0_0_0
abbrev rB3 : Rect S4x4x256x128 := Rect.unit (s := S4x4x256x128) ![3, 0, 0, 0] S1x4x256x128.size inb_S4x4x256x128_S1x4x256x128_3_0_0_0
abbrev rL3 : Rect S4x1x1024 := Rect.unit (s := S4x1x1024) ![3, 0, 0] S1x1x1024.size inb_S4x1x1024_S1x1x1024_3_0_0

/-- The embedded patches. -/
def emb (x0 : Vec F S4x256x588 .bf16) (x1 : Vec F S588x1024 .f32) (x2 : Vec F S1024 .f32) : FVec F S1024x1024 .f32 :=
  k0_pay6 (View.ld x0 rX0) (View.ld x1 rX1) (View.ld x2 rX2)
/-- Layer 0's features. -/
def lay0 (x0 : Vec F S4x256x588 .bf16) (x1 : Vec F S588x1024 .f32) (x2 : Vec F S1024 .f32) (x3 : Vec F S2x1024x1024 .f32) (x4 : Vec F S2x1024 .f32) : FVec F S1024x1024 .f32 :=
  k0_pay9 (View.ld x0 rX0) (View.ld x1 rX1) (View.ld x2 rX2) (View.ld x3 rX3a) (View.ld x4 rX4a)
/-- Layer 0's features, as stored. -/
def lay0s (x0 : Vec F S4x256x588 .bf16) (x1 : Vec F S588x1024 .f32) (x2 : Vec F S1024 .f32) (x3 : Vec F S2x1024x1024 .f32) (x4 : Vec F S2x1024 .f32) : FVec F S4x256x1024 .bf16 :=
  k0_pay10 (View.ld x0 rX0) (View.ld x1 rX1) (View.ld x2 rX2) (View.ld x3 rX3a) (View.ld x4 rX4a)
/-- The pooling matrix. -/
def pool (x0 : Vec F S4x256x588 .bf16) (x1 : Vec F S588x1024 .f32) (x2 : Vec F S1024 .f32) (x3 : Vec F S2x1024x1024 .f32) (x4 : Vec F S2x1024 .f32) (x5 : Vec F S256x256 .f32) : FVec F S256x256 .f32 := k0_pay7 (View.ld x5 rX5)
/-- Layer 0's features pooled, and as stored. -/
def pool0 (x0 : Vec F S4x256x588 .bf16) (x1 : Vec F S588x1024 .f32) (x2 : Vec F S1024 .f32) (x3 : Vec F S2x1024x1024 .f32) (x4 : Vec F S2x1024 .f32) (x5 : Vec F S256x256 .f32) : FVec F S1024x1024 .f32 := k0_pay15 (pool x0 x1 x2 x3 x4 x5) (lay0 x0 x1 x2 x3 x4)
def pool0s (x0 : Vec F S4x256x588 .bf16) (x1 : Vec F S588x1024 .f32) (x2 : Vec F S1024 .f32) (x3 : Vec F S2x1024x1024 .f32) (x4 : Vec F S2x1024 .f32) (x5 : Vec F S256x256 .f32) : FVec F S4x256x1024 .bf16 := k0_pay16 (pool x0 x1 x2 x3 x4 x5) (lay0 x0 x1 x2 x3 x4)
/-- Layer 1's pre-activation and the polynomial inside its activation. -/
def pre1 (x0 : Vec F S4x256x588 .bf16) (x1 : Vec F S588x1024 .f32) (x2 : Vec F S1024 .f32) (x3 : Vec F S2x1024x1024 .f32) (x4 : Vec F S2x1024 .f32) : FVec F S1024x1024 .f32 := k0_pay21 (emb x0 x1 x2) (View.ld x3 rX3b) (View.ld x4 rX4b)
def cub1 (x0 : Vec F S4x256x588 .bf16) (x1 : Vec F S588x1024 .f32) (x2 : Vec F S1024 .f32) (x3 : Vec F S2x1024x1024 .f32) (x4 : Vec F S2x1024 .f32) : FVec F S1024x1024 .f32 := k0_pay22 (emb x0 x1 x2) (View.ld x3 rX3b) (View.ld x4 rX4b)
/-- Layer 1's features and their pooled rows, three images' apart from the fourth. -/
def lay1 (x0 : Vec F S4x256x588 .bf16) (x1 : Vec F S588x1024 .f32) (x2 : Vec F S1024 .f32) (x3 : Vec F S2x1024x1024 .f32) (x4 : Vec F S2x1024 .f32) : FVec F S1024x1024 .f32 := k0_pay23 (pre1 x0 x1 x2 x3 x4) (cub1 x0 x1 x2 x3 x4)
def pool1a (x0 : Vec F S4x256x588 .bf16) (x1 : Vec F S588x1024 .f32) (x2 : Vec F S1024 .f32) (x3 : Vec F S2x1024x1024 .f32) (x4 : Vec F S2x1024 .f32) (x5 : Vec F S256x256 .f32) : FVec F S256x1024 .f32 := k0_pay28 (pool x0 x1 x2 x3 x4 x5) (pre1 x0 x1 x2 x3 x4) (cub1 x0 x1 x2 x3 x4)
def pool1b (x0 : Vec F S4x256x588 .bf16) (x1 : Vec F S588x1024 .f32) (x2 : Vec F S1024 .f32) (x3 : Vec F S2x1024x1024 .f32) (x4 : Vec F S2x1024 .f32) (x5 : Vec F S256x256 .f32) : FVec F S256x1024 .f32 := k0_pay29 (pool x0 x1 x2 x3 x4 x5) (pre1 x0 x1 x2 x3 x4) (cub1 x0 x1 x2 x3 x4)
def pool1c (x0 : Vec F S4x256x588 .bf16) (x1 : Vec F S588x1024 .f32) (x2 : Vec F S1024 .f32) (x3 : Vec F S2x1024x1024 .f32) (x4 : Vec F S2x1024 .f32) (x5 : Vec F S256x256 .f32) : FVec F S256x1024 .f32 := k0_pay30 (pool x0 x1 x2 x3 x4 x5) (pre1 x0 x1 x2 x3 x4) (cub1 x0 x1 x2 x3 x4)

/-- What the body leaves in the features' window: four stores, the last first. -/
def outF (x0 : Vec F S4x256x588 .bf16) (x1 : Vec F S588x1024 .f32) (x2 : Vec F S1024 .f32) (x3 : Vec F S2x1024x1024 .f32) (x4 : Vec F S2x1024 .f32) (x5 : Vec F S256x256 .f32) : Vec F S4x4x256x1024 .bf16 :=
  View.canon [⟨rF3, k0_pay2 (pool x0 x1 x2 x3 x4 x5) (lay1 x0 x1 x2 x3 x4) (pool1a x0 x1 x2 x3 x4 x5) (pool1b x0 x1 x2 x3 x4 x5) (pool1c x0 x1 x2 x3 x4 x5)⟩,
    ⟨rF1, k0_pay24 (pre1 x0 x1 x2 x3 x4) (cub1 x0 x1 x2 x3 x4)⟩,
    ⟨rF2, k0_pay17 (pool0s x0 x1 x2 x3 x4 x5)⟩,
    ⟨rF0, k0_pay11 (lay0s x0 x1 x2 x3 x4)⟩]
/-- What it leaves in the broadcast row sums' window. -/
def outB (x0 : Vec F S4x256x588 .bf16) (x1 : Vec F S588x1024 .f32) (x2 : Vec F S1024 .f32) (x3 : Vec F S2x1024x1024 .f32) (x4 : Vec F S2x1024 .f32) (x5 : Vec F S256x256 .f32) : Vec F S4x4x256x128 .f32 :=
  View.canon [⟨rB3, k0_pay4 (pool x0 x1 x2 x3 x4 x5) (k0_pay8 (F := F)) (lay1 x0 x1 x2 x3 x4) (pool1a x0 x1 x2 x3 x4 x5) (pool1b x0 x1 x2 x3 x4 x5) (pool1c x0 x1 x2 x3 x4 x5)⟩,
    ⟨rB1, k0_pay26 (k0_pay8 (F := F)) (pre1 x0 x1 x2 x3 x4) (cub1 x0 x1 x2 x3 x4)⟩,
    ⟨rB2, k0_pay19 (k0_pay8 (F := F)) (pool0 x0 x1 x2 x3 x4 x5)⟩,
    ⟨rB0, k0_pay13 (k0_pay8 (F := F)) (lay0 x0 x1 x2 x3 x4)⟩]
/-- What it leaves in the row sums' window. -/
def outL (x0 : Vec F S4x256x588 .bf16) (x1 : Vec F S588x1024 .f32) (x2 : Vec F S1024 .f32) (x3 : Vec F S2x1024x1024 .f32) (x4 : Vec F S2x1024 .f32) (x5 : Vec F S256x256 .f32) : Vec F S4x1x1024 .f32 :=
  View.canon [⟨rL3, k0_pay5 (pool x0 x1 x2 x3 x4 x5) (lay1 x0 x1 x2 x3 x4) (pool1a x0 x1 x2 x3 x4 x5) (pool1b x0 x1 x2 x3 x4 x5) (pool1c x0 x1 x2 x3 x4 x5)⟩,
    ⟨rL1, k0_pay27 (pre1 x0 x1 x2 x3 x4) (cub1 x0 x1 x2 x3 x4)⟩,
    ⟨rL2, k0_pay20 (pool0 x0 x1 x2 x3 x4 x5)⟩,
    ⟨rL0, k0_pay14 (lay0 x0 x1 x2 x3 x4)⟩]

/-- Four stores along the leading axis cover the window. -/
theorem coverF (p0 p1 p2 p3 : Vec F S1x4x256x1024 .bf16) (y : S4x4x256x1024.Idx) :
    ∃ pc ∈ ([⟨rF3, p0⟩, ⟨rF1, p1⟩, ⟨rF2, p2⟩, ⟨rF0, p3⟩] : List (View.Piece (Elt F) S4x4x256x1024 .bf16)), y ∈ pc.1.set :=
  View.cover_of_tiled [⟨rF3, p0⟩, ⟨rF1, p1⟩, ⟨rF2, p2⟩, ⟨rF0, p3⟩] S1x4x256x1024.size (by rfl) y
theorem coverB (p0 p1 p2 p3 : Vec F S1x4x256x128 .f32) (y : S4x4x256x128.Idx) :
    ∃ pc ∈ ([⟨rB3, p0⟩, ⟨rB1, p1⟩, ⟨rB2, p2⟩, ⟨rB0, p3⟩] : List (View.Piece (Elt F) S4x4x256x128 .f32)), y ∈ pc.1.set :=
  View.cover_of_tiled [⟨rB3, p0⟩, ⟨rB1, p1⟩, ⟨rB2, p2⟩, ⟨rB0, p3⟩] S1x4x256x128.size (by rfl) y
theorem coverL (p0 p1 p2 p3 : Vec F S1x1x1024 .f32) (y : S4x1x1024.Idx) :
    ∃ pc ∈ ([⟨rL3, p0⟩, ⟨rL1, p1⟩, ⟨rL2, p2⟩, ⟨rL0, p3⟩] : List (View.Piece (Elt F) S4x1x1024 .f32)), y ∈ pc.1.set :=
  View.cover_of_tiled [⟨rL3, p0⟩, ⟨rL1, p1⟩, ⟨rL2, p2⟩, ⟨rL0, p3⟩] S1x1x1024.size (by rfl) y

set_option maxHeartbeats 1000000 in
/-- The body's run: from whole staging memrefs, the inputs' at `x·`, it returns the inputs' as they were and the outputs' at
    `outF`, `outB`, `outL`. -/
theorem run1 (c : Dev nD) (E : Set ℕ) (i : grid0.Coords) (arg1 : Memref sig .tc .vmem S4x256x588 .bf16) (harg1 : arg1.IsWhole) (arg2 : Memref sig .tc .vmem S588x1024 .f32) (harg2 : arg2.IsWhole) (arg3 : Memref sig .tc .vmem S1024 .f32) (harg3 : arg3.IsWhole) (arg4 : Memref sig .tc .vmem S2x1024x1024 .f32) (harg4 : arg4.IsWhole) (arg5 : Memref sig .tc .vmem S2x1024 .f32) (harg5 : arg5.IsWhole) (arg6 : Memref sig .tc .vmem S256x256 .f32) (harg6 : arg6.IsWhole) (arg7 : Memref sig .tc .vmem S4x4x256x1024 .bf16) (harg7 : arg7.IsWhole) (arg8 : Memref sig .tc .vmem S4x4x256x128 .f32) (harg8 : arg8.IsWhole) (arg9 : Memref sig .tc .vmem S4x1x1024 .f32) (harg9 : arg9.IsWhole)
    (x0 : Vec F S4x256x588 .bf16) (x1 : Vec F S588x1024 .f32) (x2 : Vec F S1024 .f32) (x3 : Vec F S2x1024x1024 .f32) (x4 : Vec F S2x1024 .f32) (x5 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outF x0 x1 x2 x3 x4 x5) ∗ owns (c : Thread nD τ) arg8 fullShare (outB x0 x1 x2 x3 x4 x5) ∗ owns (c : Thread nD τ) arg9 fullShare (outL x0 x1 x2 x3 x4 x5)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9) K := by
  simp only [cc0__k1_body_eq_skeleton]; unfold cc0__k1_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverF _ _ _ _)).trans ?_
    rfl
  isplitl [H7]
  · iexists _; isplitr
    swap; · iexact H7
    ipureintro
    refine (View.read_writes_eq_canon _ _ _ (coverB _ _ _ _)).trans ?_
    rfl
  iexists _; isplitr
  swap; · iexact H8
  ipureintro
  refine (View.read_writes_eq_canon _ _ _ (coverL _ _ _ _)).trans ?_
  rfl

variable (V : Valuation τ sig (Elt F))

/-- Window `w`'s block at point `t`, of the arrays at `V`. -/
def blk0 (w : Fin cfg0.W) (t : Fin cfg0.N) : ((cfg0.win w).xblock (cfg0.grid.coords t)).Idx → Elt F (cfg0.win w).elt :=
  ((cfg0.win w).blk t).view.read (Elt F) (V (Pipeline.arrRef spec0 w))

/-- The proof data: the arrays at `V`; each input's buffer left at its block, each output's at what the run leaves. -/
def dat0 (c : Dev nD) : Dat τ (Elt F) Unit ℕ (UR sig nD τ × UR sig nD τ) ℕ cfg0 c where
  A w := V (Pipeline.arrRef spec0 w)
  after w t := match w with
    | ⟨0, _⟩ => blk0 V 0 t
    | ⟨1, _⟩ => blk0 V 1 t
    | ⟨2, _⟩ => blk0 V 2 t
    | ⟨3, _⟩ => blk0 V 3 t
    | ⟨4, _⟩ => blk0 V 4 t
    | ⟨5, _⟩ => blk0 V 5 t
    | ⟨6, _⟩ => outF (blk0 V 0 t) (blk0 V 1 t) (blk0 V 2 t) (blk0 V 3 t) (blk0 V 4 t) (blk0 V 5 t)
    | ⟨7, _⟩ => outB (blk0 V 0 t) (blk0 V 1 t) (blk0 V 2 t) (blk0 V 3 t) (blk0 V 4 t) (blk0 V 5 t)
    | ⟨8, _⟩ => outL (blk0 V 0 t) (blk0 V 1 t) (blk0 V 2 t) (blk0 V 3 t) (blk0 V 4 t) (blk0 V 5 t)
  Φ _ := Pipeline.scopedRest spec0 c
  q _ := fullShare
  owed _ := 0

theorem Φ_eq0 (c : Dev nD) (t) : (dat0 V c).Φ t = Pipeline.scopedRest spec0 c := by dsimp only [dat0]

theorem A_eq0 (c : Dev nD) (w : Fin cfg0.W) : (dat0 V c).A w = V (Pipeline.arrRef spec0 w) := by dsimp only [dat0]

theorem after0_0 (c : Dev nD) (t : Fin cfg0.N) : (dat0 V c).after 0 t = blk0 V 0 t := by dsimp only [dat0]
theorem after0_1 (c : Dev nD) (t : Fin cfg0.N) : (dat0 V c).after 1 t = blk0 V 1 t := by dsimp only [dat0]
theorem after0_2 (c : Dev nD) (t : Fin cfg0.N) : (dat0 V c).after 2 t = blk0 V 2 t := by dsimp only [dat0]
theorem after0_3 (c : Dev nD) (t : Fin cfg0.N) : (dat0 V c).after 3 t = blk0 V 3 t := by dsimp only [dat0]
theorem after0_4 (c : Dev nD) (t : Fin cfg0.N) : (dat0 V c).after 4 t = blk0 V 4 t := by dsimp only [dat0]
theorem after0_5 (c : Dev nD) (t : Fin cfg0.N) : (dat0 V c).after 5 t = blk0 V 5 t := by dsimp only [dat0]
theorem after0_6 (c : Dev nD) (t : Fin cfg0.N) : (dat0 V c).after 6 t = outF (blk0 V 0 t) (blk0 V 1 t) (blk0 V 2 t) (blk0 V 3 t) (blk0 V 4 t) (blk0 V 5 t) := by dsimp only [dat0]
theorem after0_7 (c : Dev nD) (t : Fin cfg0.N) : (dat0 V c).after 7 t = outB (blk0 V 0 t) (blk0 V 1 t) (blk0 V 2 t) (blk0 V 3 t) (blk0 V 4 t) (blk0 V 5 t) := by dsimp only [dat0]
theorem after0_8 (c : Dev nD) (t : Fin cfg0.N) : (dat0 V c).after 8 t = outL (blk0 V 0 t) (blk0 V 1 t) (blk0 V 2 t) (blk0 V 3 t) (blk0 V 4 t) (blk0 V 5 t) := by dsimp only [dat0]

/-! Each input's staging buffer holds its block at every point. -/

theorem before0_0 (c : Dev nD) (t : Fin cfg0.N) (d) : (dat0 V c).before 0 t d = blk0 V 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)
theorem before0_5 (c : Dev nD) (t : Fin cfg0.N) (d) : (dat0 V c).before 5 t d = blk0 V 5 t :=
  ((dat0 V c).before_in_eq_fetched 5 rfl (fun _ => rfl) (fun _ _ _ => rfl)
    (fun t => by rw [after0_5]; unfold Dat.blockOf blk0; rw [A_eq0]; try rfl) t d).trans
    (by unfold Dat.fetched Dat.blockOf blk0; rw [A_eq0]; try rfl)

/-- The body at point `t`, window by window. -/
theorem sound0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d))
        ∗ (∃ d, owns (c : Thread nD τ) (st0_8 t) fullShare ((dat0 V c).before 8 t d)))
      ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t)
        ∗ owns (c : Thread nD τ) (st0_6 t) fullShare ((dat0 V c).after 6 t)
        ∗ owns (c : Thread nD τ) (st0_7 t) fullShare ((dat0 V c).after 7 t)
        ∗ owns (c : Thread nD τ) (st0_8 t) fullShare ((dat0 V c).after 8 t))) := by
  unfold bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c Set.univ (grid0.coords t) _ _ _ _ _ _ _ _ _ _ _ _ _ _ _ _ _ _ (blk0 V 0 t) (blk0 V 1 t) (blk0 V 2 t) (blk0 V 3 t) (blk0 V 4 t) (blk0 V 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem row0 (t : Fin cfg0.N) : defs₀ (F := F) .tc cfg0.body (cfg0.bodyArgs t (cfg0.slots t)) = bodyAt0 t := by
  unfold defs₀; rw [Defs.onTc_tc]

/-- The body obligation. -/
theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.KernelIdeal.Body

end
-- ==== Proof.Ideal.Second.lean ====
module

public import proofs.«01_k».proof.Proof.Ideal.First
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- membership in a rectangle of production extents is decided coordinate by coordinate
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

/-! ## The second kernel: the minimal distances of one pair of image groups

Its accesses, what it leaves in its two output windows, its runs in its two cases, its proof data and its obligation. -/

abbrev rA (i : grid1.Coords) : Rect S1x16x256x1024 := Rect.unit (s := S1x16x256x1024) (k1_off1 i) S1x4x256x1024.size (k1_off1_inb i)
abbrev rBk (i : grid1.Coords) : Rect S1x16x256x1024 := Rect.unit (s := S1x16x256x1024) (k1_off2 i) S1x4x256x1024.size (k1_off2_inb i)
abbrev rSa (i : grid1.Coords) : Rect S1x16x256x128 := Rect.unit (s := S1x16x256x128) (k1_off3 i) S1x4x256x128.size (k1_off3_inb i)
abbrev rSb (i : grid1.Coords) : Rect S1x16x256x128 := Rect.unit (s := S1x16x256x128) (k1_off4 i) S1x4x256x128.size (k1_off4_inb i)
abbrev rM : Rect S1x1x4x1024 := Rect.unit (s := S1x1x4x1024) ![0, 0, 0, 0] S1x1x4x1024.size inb_S1x1x4x1024_S1x1x4x1024_0_0_0_0

/-- What the body leaves in its first output window: for each image of group `b` and each column of group `a`, the minimum. -/
def outA (i : grid1.Coords) (x0 : Vec F S1x16x256x1024 .bf16) (x1 : Vec F S1x16x256x128 .f32) : Vec F S1x1x4x1024 .f32 :=
  View.canon [⟨rM, k1_pay3 (k1_pay5 (View.ld x0 (rA i))) (View.ld x0 (rBk i)) (View.ld x1 (rSb i))⟩]
/-- What it leaves in its second: the roles of the two groups exchanged. -/
def outM (i : grid1.Coords) (x0 : Vec F S1x16x256x1024 .bf16) (x1 : Vec F S1x16x256x128 .f32) : Vec F S1x1x4x1024 .f32 :=
  View.canon [⟨rM, k1_pay4 (k1_pay5 (View.ld x0 (rA i))) (View.ld x0 (rBk i)) (View.ld x1 (rSa i))⟩]

/-- One store covers the window. -/
theorem coverM (p : Vec F S1x1x4x1024 .f32) (y : S1x1x4x1024.Idx) :
    ∃ pc ∈ ([⟨rM, p⟩] : List (View.Piece (Elt F) S1x1x4x1024 .f32)), y ∈ pc.1.set :=
  View.cover_of_tiled [⟨rM, p⟩] S1x1x4x1024.size (by rfl) y

/-- The second output is written at the points of the first three rounds. -/
theorem writes2 : ∀ t : Fin cfg1.N, k1_cond1 (grid1.coords t) = 1#1 ↔ t.val / 2 % 5 ≤ 2 :=
  (by decide +kernel : ∀ t : Fin grid1.N, k1_cond1 (grid1.coords t) = 1#1 ↔ t.val / 2 % 5 ≤ 2)

set_option maxHeartbeats 1000000 in
/-- The body's run where the second output is written: both outputs are named. -/
theorem run2 (c : Dev nD) (E : Set ℕ) (i : grid1.Coords) (arg3 : Memref sig .tc .vmem S1x16x256x1024 .bf16) (h3 : arg3.IsWhole) (arg4 : Memref sig .tc .vmem S1x16x256x128 .f32) (h4 : arg4.IsWhole) (arg5 : Memref sig .tc .vmem S1x1x4x1024 .f32) (h5 : arg5.IsWhole) (arg6 : Memref sig .tc .vmem S1x1x4x1024 .f32) (h6 : arg6.IsWhole) (hc : k1_cond1 i = 1#1)
    (x0 : Vec F S1x16x256x1024 .bf16) (x1 : Vec F S1x16x256x128 .f32) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (outA i x0 x1) ∗ owns (c : Thread nD τ) arg6 fullShare (outM i x0 x1)) -∗ K ⟨⟩))
      ⊢ wp frame (wpE (defs₀ (F := F)) Variants.none c none) E (cc1__k2_body i arg3 h3 arg4 h4 arg5 h5 arg6 h6) K := by
  simp only [cc1__k2_body_eq_skeleton]; unfold cc1__k2_body_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverM _)).trans ?_
    rfl
  iexists _; isplitr
  swap; · iexact H3
  ipureintro
  refine (View.read_writes_eq_canon _ _ _ (coverM _)).trans ?_
  rfl

set_option maxHeartbeats 1000000 in
/-- The body's run where it is not: the first output is named. -/
theorem run2skip (c : Dev nD) (E : Set ℕ) (i : grid1.Coords) (arg3 : Memref sig .tc .vmem S1x16x256x1024 .bf16) (h3 : arg3.IsWhole) (arg4 : Memref sig .tc .vmem S1x16x256x128 .f32) (h4 : arg4.IsWhole) (arg5 : Memref sig .tc .vmem S1x1x4x1024 .f32) (h5 : arg5.IsWhole) (arg6 : Memref sig .tc .vmem S1x1x4x1024 .f32) (h6 : arg6.IsWhole) (hc : ¬ k1_cond1 i = 1#1)
    (x0 : Vec F S1x16x256x1024 .bf16) (x1 : Vec F S1x16x256x128 .f32) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (outA i x0 x1) ∗ (∃ d, owns (c : Thread nD τ) arg6 fullShare d)) -∗ K ⟨⟩))
      ⊢ wp frame (wpE (defs₀ (F := F)) Variants.none c none) E (cc1__k2_body i arg3 h3 arg4 h4 arg5 h5 arg6 h6) K := by
  simp only [cc1__k2_body_eq_skeleton]; unfold cc1__k2_body_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverM _)).trans ?_
    rfl
  iexists _, _; isplitr
  swap; · iexact H3
  ipureintro; rfl

variable (V : Valuation τ sig (Elt F))

/-- Window `w`'s block at point `t`, of the arrays at `V`. -/
def blk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- The exact part of the proof data: the inputs' buffers left at their blocks, the first output's at what the run leaves. -/
def dat1 (c : Dev nD) : Dat τ (Elt F) Unit ℕ (UR sig nD τ × UR sig nD τ) ℕ cfg1 c where
  A w := V (Pipeline.arrRef spec1 w)
  after w t := match w with
    | ⟨0, _⟩ => blk1 V 0 t
    | ⟨1, _⟩ => blk1 V 1 t
    | ⟨2, _⟩ => outA (grid1.coords t) (blk1 V 0 t) (blk1 V 1 t)
    | ⟨3, h⟩ => Pipeline.Dat.unnamed (cfg := cfg1) ⟨3, h⟩ t
  Φ _ := Pipeline.scopedRest spec1 c
  q _ := fullShare
  owed _ := 0

theorem Φ_eq1 (c : Dev nD) (t) : (dat1 V c).Φ t = Pipeline.scopedRest spec1 c := by dsimp only [dat1]

theorem A_eq1 (c : Dev nD) (w : Fin cfg1.W) : (dat1 V c).A w = V (Pipeline.arrRef spec1 w) := by dsimp only [dat1]

theorem after1_0 (c : Dev nD) (t : Fin cfg1.N) : (dat1 V c).after 0 t = blk1 V 0 t := by dsimp only [dat1]
theorem after1_1 (c : Dev nD) (t : Fin cfg1.N) : (dat1 V c).after 1 t = blk1 V 1 t := by dsimp only [dat1]
theorem after1_2 (c : Dev nD) (t : Fin cfg1.N) : (dat1 V c).after 2 t = outA (grid1.coords t) (blk1 V 0 t) (blk1 V 1 t) := by
  dsimp only [dat1]

/-- The second output is held to a predicate, -/
def held1 : Fin 4 → Bool := fun w => w.val == 3

/-- namely: in the first three rounds it is what the run leaves. -/
def rel1 (w : Fin cfg1.W) (t : Fin cfg1.N) (X : (cfg1.win w).block.Idx → Elt F (cfg1.win w).elt) : Prop :=
  match w, X with
  | ⟨3, _⟩, X => t.val / 2 % 5 ≤ 2 → X = outM (grid1.coords t) (blk1 V 0 t) (blk1 V 1 t)
  | _, _ => True

/-! Each input's staging buffer holds its block at every point. -/

theorem before1_0 (c : Dev nD) (t : Fin cfg1.N) (d) : (dat1 V c).before 0 t d = blk1 V 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-- The body at point `t`, window by window. -/
theorem sound1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ Y, ⌜((dat1 V c).toRRel held1 (rel1 V)).Finds 3 t Y⌝ ∗ owns (c : Thread nD τ) (st1_3 t) fullShare Y))
      ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ (∃ X, ⌜rel1 V 3 t X⌝ ∗ owns (c : Thread nD τ) (st1_3 t) fullShare X))) := by
  unfold bodyAt1
  simp only [before1_0, before1_1]
  rw [show (dat1 V c).Φ t.succ = (dat1 V c).Φ t.castSucc from rfl,
    show (dat1 V c).owesAt () t.succ = (dat1 V c).owesAt () t.castSucc from rfl, after1_0, after1_1, after1_2]
  iintro ⟨HΦ, Ho, ⟨%d0, H0⟩, ⟨%d1, H1⟩, ⟨%d2, H2⟩, ⟨%d3, -, H3⟩⟩
  by_cases h : t.val / 2 % 5 ≤ 2
  · iapply (run2 c Set.univ (grid1.coords t) _ _ _ _ _ _ _ _ ((writes2 t).mpr h) (blk1 V 0 t) (blk1 V 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexists _; isplitr
    swap; · iexact H3
    ipureintro; exact fun _ => rfl
  · iapply (run2skip c Set.univ (grid1.coords t) _ _ _ _ _ _ _ _ (fun hh => h ((writes2 t).mp hh)) (blk1 V 0 t) (blk1 V 1 t) _)
    isplitl [H0]; · iexact H0
    isplitl [H1]; · iexact H1
    isplitl [H2]; · iexists _; iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    iexists e; isplitr
    swap; · iexact H3
    ipureintro; exact fun hh => absurd hh h

/-- The body table's row at point `t`'s slots is the body as `bodyAt1` spells it. -/
theorem row1 (t : Fin cfg1.N) : defs₀ (F := F) .tc cfg1.body (cfg1.bodyArgs t (cfg1.slots t)) = bodyAt1 t := by
  unfold defs₀; rw [Defs.onTc_tc]

/-- The body obligation. -/
theorem obligation1 (c : Dev nD) :
    Pipeline.BodyObligationRel (dat1 V c) (defs₀ (F := F)) Variants.none () Set.univ held1 (rel1 V) := fun t => by
  rw [bigSep_W1, bigSep_W1, row1]
  exact triple_restated (sound1 V c t) rfl .rfl fun _ => .rfl

end Cert.KernelIdeal.Body

end
-- ==== Proof.Ideal.Third.lean ====
module

public import proofs.«01_k».proof.Proof.Ideal.First
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- membership in a rectangle of production extents is decided coordinate by coordinate
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

/-! ## The third kernel: selection, the five nearest, the image scores and the score maps

Its accesses, its intermediate values, what it leaves in its two output windows, its run, its proof data and its obligation. -/

abbrev rD : Rect S4x5x4x4096 := Rect.unit (s := S4x5x4x4096) ![0, 0, 0, 0] S4x5x4x4096.size inb_S4x5x4x4096_S4x5x4x4096_0_0_0_0
abbrev rQ : Rect S4x1x4096 := Rect.unit (s := S4x1x4096) ![0, 0, 0] S4x1x4096.size inb_S4x1x4096_S4x1x4096_0_0_0
abbrev rT1 : Rect S224x256 := Rect.unit (s := S224x256) ![0, 0] S224x256.size inb_S224x256_S224x256_0_0
abbrev rT2 : Rect S256x224 := Rect.unit (s := S256x224) ![0, 0] S256x224.size inb_S256x224_S256x224_0_0
abbrev rI : Rect S1x16 := Rect.unit (s := S1x16) ![0, 0] S1x16.size inb_S1x16_S1x16_0_0
abbrev rP0 : Rect S16x224x224 := Rect.unit (s := S16x224x224) ![0, 0, 0] S1x224x224.size inb_S16x224x224_S1x224x224_0_0_0
abbrev rP1 : Rect S16x224x224 := Rect.unit (s := S16x224x224) ![1, 0, 0] S1x224x224.size inb_S16x224x224_S1x224x224_1_0_0
abbrev rP2 : Rect S16x224x224 := Rect.unit (s := S16x224x224) ![2, 0, 0] S1x224x224.size inb_S16x224x224_S1x224x224_2_0_0
abbrev rP3 : Rect S16x224x224 := Rect.unit (s := S16x224x224) ![3, 0, 0] S1x224x224.size inb_S16x224x224_S1x224x224_3_0_0
abbrev rP4 : Rect S16x224x224 := Rect.unit (s := S16x224x224) ![4, 0, 0] S1x224x224.size inb_S16x224x224_S1x224x224_4_0_0
abbrev rP5 : Rect S16x224x224 := Rect.unit (s := S16x224x224) ![5, 0, 0] S1x224x224.size inb_S16x224x224_S1x224x224_5_0_0
abbrev rP6 : Rect S16x224x224 := Rect.unit (s := S16x224x224) ![6, 0, 0] S1x224x224.size inb_S16x224x224_S1x224x224_6_0_0
abbrev rP7 : Rect S16x224x224 := Rect.unit (s := S16x224x224) ![7, 0, 0] S1x224x224.size inb_S16x224x224_S1x224x224_7_0_0
abbrev rP8 : Rect S16x224x224 := Rect.unit (s := S16x224x224) ![8, 0, 0] S1x224x224.size inb_S16x224x224_S1x224x224_8_0_0
abbrev rP9 : Rect S16x224x224 := Rect.unit (s := S16x224x224) ![9, 0, 0] S1x224x224.size inb_S16x224x224_S1x224x224_9_0_0
abbrev rP10 : Rect S16x224x224 := Rect.unit (s := S16x224x224) ![10, 0, 0] S1x224x224.size inb_S16x224x224_S1x224x224_10_0_0
abbrev rP11 : Rect S16x224x224 := Rect.unit (s := S16x224x224) ![11, 0, 0] S1x224x224.size inb_S16x224x224_S1x224x224_11_0_0
abbrev rP12 : Rect S16x224x224 := Rect.unit (s := S16x224x224) ![12, 0, 0] S1x224x224.size inb_S16x224x224_S1x224x224_12_0_0
abbrev rP13 : Rect S16x224x224 := Rect.unit (s := S16x224x224) ![13, 0, 0] S1x224x224.size inb_S16x224x224_S1x224x224_13_0_0
abbrev rP14 : Rect S16x224x224 := Rect.unit (s := S16x224x224) ![14, 0, 0] S1x224x224.size inb_S16x224x224_S1x224x224_14_0_0
abbrev rP15 : Rect S16x224x224 := Rect.unit (s := S16x224x224) ![15, 0, 0] S1x224x224.size inb_S16x224x224_S1x224x224_15_0_0

/-- The coordinates of the round and of the image within a group. -/
def rnd : IVec S4x5x4x4096 32 := iota .tc S4x5x4x4096 32 [1] iota_S4x5x4x4096_d1_w32
def opp : IVec S4x5x4x4096 32 := iota .tc S4x5x4x4096 32 [2] iota_S4x5x4x4096_d2_w32

/-- The distances selected between the two arrays of minima. -/
def sel (x0 x1 : Vec F S4x5x4x4096 .f32) : FVec F S4x5x4x4096 .f32 :=
  k2_pay9 (k2_pay2 (View.ld x0 rD)) (k2_pay3 (View.ld x1 rD)) k2_pay5 rnd 4#32 k2_pay6 k2_pay7 0#32
/-- Which candidates of the last two rounds count. -/
def diagOk : IVec S4x5x4x4096 1 :=
  k2_pay11 k2_pay5 rnd opp (k2_pay8 k2_pay5 4#32 k2_pay6 k2_pay7 0#32) 2#32 k2_pay10
/-- The per-column scores. -/
def scores (x0 : Vec F S4x5x4x4096 .f32) (x1 : Vec F S4x5x4x4096 .f32) (x2 : Vec F S4x1x4096 .f32) : FVec F S4096 .f32 :=
  k2_pay23 (k2_pay4 (View.ld x2 rQ)) (k2_pay14 rnd opp)
    (k2_pay18 (k2_pay2 (View.ld x0 rD)) (k2_pay4 (View.ld x2 rQ)) rnd opp (sel x0 x1) diagOk (k2_pay12 rnd))
    (k2_pay19 (k2_pay2 (View.ld x0 rD)) rnd opp (sel x0 x1) diagOk (k2_pay12 rnd))
    (k2_pay20 (k2_pay2 (View.ld x0 rD)) rnd opp (sel x0 x1) diagOk (k2_pay12 rnd))
    (k2_pay21 (k2_pay2 (View.ld x0 rD)) (k2_pay4 (View.ld x2 rQ)) rnd opp (sel x0 x1) diagOk (k2_pay12 rnd))
    (k2_pay22 (F := F))
/-- The two interpolation tables. -/
def leftTab (x3 : Vec F S224x256 .f32) : FVec F S224x256 .f32 := k2_pay24 (View.ld x3 rT1)
def rightTab (x4 : Vec F S256x224 .f32) : FVec F S256x224 .f32 := k2_pay25 (View.ld x4 rT2)

/-- What the body leaves in the score maps' window: sixteen stores, the last first. -/
def outP (x0 : Vec F S4x5x4x4096 .f32) (x1 : Vec F S4x5x4x4096 .f32) (x2 : Vec F S4x1x4096 .f32) (x3 : Vec F S224x256 .f32) (x4 : Vec F S256x224 .f32) : Vec F S16x224x224 .f32 :=
  View.canon [⟨rP15, k2_pay1 (k2_pay56 (scores x0 x1 x2) (leftTab x3) (rightTab x4))⟩,
    ⟨rP14, k2_pay55 (scores x0 x1 x2) (leftTab x3) (rightTab x4)⟩,
    ⟨rP13, k2_pay54 (scores x0 x1 x2) (leftTab x3) (rightTab x4)⟩,
    ⟨rP12, k2_pay53 (scores x0 x1 x2) (leftTab x3) (rightTab x4)⟩,
    ⟨rP11, k2_pay52 (k2_pay51 (scores x0 x1 x2) (leftTab x3) (rightTab x4))⟩,
    ⟨rP10, k2_pay50 (scores x0 x1 x2) (leftTab x3) (rightTab x4)⟩,
    ⟨rP9, k2_pay49 (scores x0 x1 x2) (leftTab x3) (rightTab x4)⟩,
    ⟨rP8, k2_pay48 (scores x0 x1 x2) (leftTab x3) (rightTab x4)⟩,
    ⟨rP7, k2_pay47 (k2_pay46 (scores x0 x1 x2) (leftTab x3) (rightTab x4))⟩,
    ⟨rP6, k2_pay45 (scores x0 x1 x2) (leftTab x3) (rightTab x4)⟩,
    ⟨rP5, k2_pay44 (scores x0 x1 x2) (leftTab x3) (rightTab x4)⟩,
    ⟨rP4, k2_pay43 (scores x0 x1 x2) (leftTab x3) (rightTab x4)⟩,
    ⟨rP3, k2_pay42 (k2_pay41 (scores x0 x1 x2) (leftTab x3) (rightTab x4))⟩,
    ⟨rP2, k2_pay40 (scores x0 x1 x2) (leftTab x3) (rightTab x4)⟩,
    ⟨rP1, k2_pay39 (scores x0 x1 x2) (leftTab x3) (rightTab x4)⟩,
    ⟨rP0, k2_pay38 (scores x0 x1 x2) (leftTab x3) (rightTab x4)⟩]
/-- What it leaves in the image scores' window. -/
def outI (x0 : Vec F S4x5x4x4096 .f32) (x1 : Vec F S4x5x4x4096 .f32) (x2 : Vec F S4x1x4096 .f32) : Vec F S1x16 .f32 :=
  View.canon [⟨rI, k2_pay37 (k2_pay36 (scores x0 x1 x2) (k2_pay26 (scores x0 x1 x2)) (k2_pay27 (scores x0 x1 x2)) (k2_pay28 (scores x0 x1 x2))
    (k2_pay29 (scores x0 x1 x2)) (k2_pay30 (scores x0 x1 x2)) (k2_pay31 (scores x0 x1 x2)) (k2_pay32 (scores x0 x1 x2)) (k2_pay33 (scores x0 x1 x2))
    (k2_pay34 (scores x0 x1 x2)) (k2_pay35 (scores x0 x1 x2)))⟩]

/-- Sixteen stores along the leading axis cover the window. -/
theorem coverP (p15 p14 p13 p12 p11 p10 p9 p8 p7 p6 p5 p4 p3 p2 p1 p0 : Vec F S1x224x224 .f32) (y : S16x224x224.Idx) :
    ∃ pc ∈ ([⟨rP15, p15⟩, ⟨rP14, p14⟩, ⟨rP13, p13⟩, ⟨rP12, p12⟩, ⟨rP11, p11⟩, ⟨rP10, p10⟩, ⟨rP9, p9⟩, ⟨rP8, p8⟩, ⟨rP7, p7⟩, ⟨rP6, p6⟩, ⟨rP5, p5⟩, ⟨rP4, p4⟩, ⟨rP3, p3⟩, ⟨rP2, p2⟩, ⟨rP1, p1⟩, ⟨rP0, p0⟩] : List (View.Piece (Elt F) S16x224x224 .f32)), y ∈ pc.1.set :=
  View.cover_of_tiled [⟨rP15, p15⟩, ⟨rP14, p14⟩, ⟨rP13, p13⟩, ⟨rP12, p12⟩, ⟨rP11, p11⟩, ⟨rP10, p10⟩, ⟨rP9, p9⟩, ⟨rP8, p8⟩, ⟨rP7, p7⟩, ⟨rP6, p6⟩, ⟨rP5, p5⟩, ⟨rP4, p4⟩, ⟨rP3, p3⟩, ⟨rP2, p2⟩, ⟨rP1, p1⟩, ⟨rP0, p0⟩] S1x224x224.size (by rfl) y
theorem coverI (p : Vec F S1x16 .f32) (y : S1x16.Idx) :
    ∃ pc ∈ ([⟨rI, p⟩] : List (View.Piece (Elt F) S1x16 .f32)), y ∈ pc.1.set :=
  View.cover_of_tiled [⟨rI, p⟩] S1x16.size (by rfl) y

set_option maxHeartbeats 3000000 in
/-- The body's run: from whole staging memrefs, the inputs' at `x·`, it returns the inputs' as they were and the outputs' at
    `outP`, `outI`. -/
theorem run3 (c : Dev nD) (E : Set ℕ) (arg0 : Memref sig .tc .vmem S4x5x4x4096 .f32) (harg0 : arg0.IsWhole) (arg1 : Memref sig .tc .vmem S4x5x4x4096 .f32) (harg1 : arg1.IsWhole) (arg2 : Memref sig .tc .vmem S4x1x4096 .f32) (harg2 : arg2.IsWhole) (arg3 : Memref sig .tc .vmem S224x256 .f32) (harg3 : arg3.IsWhole) (arg4 : Memref sig .tc .vmem S256x224 .f32) (harg4 : arg4.IsWhole) (arg5 : Memref sig .tc .vmem S16x224x224 .f32) (harg5 : arg5.IsWhole) (arg6 : Memref sig .tc .vmem S1x16 .f32) (harg6 : arg6.IsWhole)
    (x0 : Vec F S4x5x4x4096 .f32) (x1 : Vec F S4x5x4x4096 .f32) (x2 : Vec F S4x1x4096 .f32) (x3 : Vec F S224x256 .f32) (x4 : Vec F S256x224 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (outP x0 x1 x2 x3 x4) ∗ owns (c : Thread nD τ) arg6 fullShare (outI x0 x1 x2)) -∗ K ⟨⟩))
      ⊢ wp frame (wpE (defs₀ (F := F)) Variants.none c none) E (cc2__k3a_body arg0 harg0 arg1 harg1 arg2 harg2 arg3 harg3 arg4 harg4 arg5 harg5 arg6 harg6) K := by
  simp only [cc2__k3a_body_eq_skeleton]; unfold cc2__k3a_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverP _ _ _ _ _ _ _ _ _ _ _ _ _ _ _ _)).trans ?_
    rfl
  iexists _; isplitr
  swap; · iexact H6
  ipureintro
  refine (View.read_writes_eq_canon _ _ _ (coverI _)).trans ?_
  rfl

variable (V : Valuation τ sig (Elt F))

/-- Window `w`'s block at the one point, of the arrays at `V`. -/
def blk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- The proof data: the arrays at `V`; each input's buffer left at its block, each output's at what the run leaves. -/
def dat2 (c : Dev nD) : Dat τ (Elt F) Unit ℕ (UR sig nD τ × UR sig nD τ) ℕ cfg2 c where
  A w := V (Pipeline.arrRef spec2 w)
  after w t := match w with
    | ⟨0, _⟩ => blk2 V 0 t
    | ⟨1, _⟩ => blk2 V 1 t
    | ⟨2, _⟩ => blk2 V 2 t
    | ⟨3, _⟩ => blk2 V 3 t
    | ⟨4, _⟩ => blk2 V 4 t
    | ⟨5, _⟩ => outP (blk2 V 0 t) (blk2 V 1 t) (blk2 V 2 t) (blk2 V 3 t) (blk2 V 4 t)
    | ⟨6, _⟩ => outI (blk2 V 0 t) (blk2 V 1 t) (blk2 V 2 t)
  Φ _ := Pipeline.scopedRest spec2 c
  q _ := fullShare
  owed _ := 0

theorem Φ_eq2 (c : Dev nD) (t) : (dat2 V c).Φ t = Pipeline.scopedRest spec2 c := by dsimp only [dat2]

theorem A_eq2 (c : Dev nD) (w : Fin cfg2.W) : (dat2 V c).A w = V (Pipeline.arrRef spec2 w) := by dsimp only [dat2]

theorem after2_0 (c : Dev nD) (t : Fin cfg2.N) : (dat2 V c).after 0 t = blk2 V 0 t := by dsimp only [dat2]
theorem after2_1 (c : Dev nD) (t : Fin cfg2.N) : (dat2 V c).after 1 t = blk2 V 1 t := by dsimp only [dat2]
theorem after2_2 (c : Dev nD) (t : Fin cfg2.N) : (dat2 V c).after 2 t = blk2 V 2 t := by dsimp only [dat2]
theorem after2_3 (c : Dev nD) (t : Fin cfg2.N) : (dat2 V c).after 3 t = blk2 V 3 t := by dsimp only [dat2]
theorem after2_4 (c : Dev nD) (t : Fin cfg2.N) : (dat2 V c).after 4 t = blk2 V 4 t := by dsimp only [dat2]
theorem after2_5 (c : Dev nD) (t : Fin cfg2.N) : (dat2 V c).after 5 t = outP (blk2 V 0 t) (blk2 V 1 t) (blk2 V 2 t) (blk2 V 3 t) (blk2 V 4 t) := by dsimp only [dat2]
theorem after2_6 (c : Dev nD) (t : Fin cfg2.N) : (dat2 V c).after 6 t = outI (blk2 V 0 t) (blk2 V 1 t) (blk2 V 2 t) := by dsimp only [dat2]

/-! Each input's staging buffer holds its block. -/

theorem before2_0 (c : Dev nD) (t : Fin cfg2.N) (d) : (dat2 V c).before 0 t d = blk2 V 0 t :=
  ((dat2 V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V 1 t :=
  ((dat2 V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V 2 t :=
  ((dat2 V c).before_in_eq_fetched 2 rfl (fun _ => rfl) (fun _ _ _ => rfl)
    (fun t => by rw [after2_2]; unfold Dat.blockOf blk2; rw [A_eq2]; try rfl) t d).trans
    (by unfold Dat.fetched Dat.blockOf blk2; rw [A_eq2]; try rfl)
theorem before2_3 (c : Dev nD) (t : Fin cfg2.N) (d) : (dat2 V c).before 3 t d = blk2 V 3 t :=
  ((dat2 V c).before_in_eq_fetched 3 rfl (fun _ => rfl) (fun _ _ _ => rfl)
    (fun t => by rw [after2_3]; unfold Dat.blockOf blk2; rw [A_eq2]; try rfl) t d).trans
    (by unfold Dat.fetched Dat.blockOf blk2; rw [A_eq2]; try rfl)
theorem before2_4 (c : Dev nD) (t : Fin cfg2.N) (d) : (dat2 V c).before 4 t d = blk2 V 4 t :=
  ((dat2 V c).before_in_eq_fetched 4 rfl (fun _ => rfl) (fun _ _ _ => rfl)
    (fun t => by rw [after2_4]; unfold Dat.blockOf blk2; rw [A_eq2]; try rfl) t d).trans
    (by unfold Dat.fetched Dat.blockOf blk2; rw [A_eq2]; try rfl)

/-- The body at the one point, window by window. -/
theorem sound2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d))
        ∗ (∃ d, owns (c : Thread nD τ) (st2_6 t) fullShare ((dat2 V c).before 6 t d)))
      ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t))) := by
  unfold bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run3 c Set.univ _ _ _ _ _ _ _ _ _ _ _ _ _ _ (blk2 V 0 t) (blk2 V 1 t) (blk2 V 2 t) (blk2 V 3 t) (blk2 V 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at the point's slots is the body as `bodyAt2` spells it. -/
theorem row2 (t : Fin cfg2.N) : defs₀ (F := F) .tc cfg2.body (cfg2.bodyArgs t (cfg2.slots t)) = bodyAt2 t := by
  unfold defs₀; rw [Defs.onTc_tc]

/-- The body obligation. -/
theorem obligation2 (c : Dev nD) : BodyObligation (dat2 V c) (defs₀ (F := F)) Variants.none () Set.univ := fun t => by
  rw [bigSep_W2, bigSep_W2, row2]
  exact triple_restated (sound2 V c t) rfl .rfl fun _ => .rfl

end Cert.KernelIdeal.Body

end
-- ==== Proof.Ideal.Run.lean ====
module

public import proofs.«01_k».proof.Proof.Ideal.First
public import proofs.«01_k».proof.Proof.Ideal.Second
public import proofs.«01_k».proof.Proof.Ideal.Third
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- membership in a rectangle of production extents is decided coordinate by coordinate
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

/-! ## The whole program's run

The three kernels as facts over any entry valuation, the program's items as stages, and the run from them. -/

local notation "UU" => UR sig nD τ × UR sig nD τ

/-- Kernel 0's facts. -/
def facts0 : Stage.Facts (nD := nD) (τ := τ) (U := UU) (Val := Elt F) cfgs (defs₀ (F := F)) 0 where
  win := launch0.win
  block_pos := launch0.block_pos
  arr_whole := launch0.arr_whole
  stage_whole := launch0.stage_whole
  dat V c := (dat0 V c).toR
  hA V c w := A_eq0 V c w
  hΦ V c t := Φ_eq0 V c t
  howed _ _ _ := rfl
  hrec _ _ _ := rfl
  hshare V c w := (dat0 V c).share_full (fun _ => rfl) w
  hbody V c := (obligation0 V c).loose.toR

/-- Kernel 1's facts. -/
def facts1 : Stage.Facts (nD := nD) (τ := τ) (U := UU) (Val := Elt F) cfgs (defs₀ (F := F)) 1 where
  win := launch1.win
  block_pos := launch1.block_pos
  arr_whole := launch1.arr_whole
  stage_whole := launch1.stage_whole
  dat V c := (dat1 V c).toRRel held1 (rel1 V)
  hA V c w := A_eq1 V c w
  hΦ V c t := Φ_eq1 V c t
  howed _ _ _ := rfl
  hrec _ _ _ := rfl
  hshare V c w := (dat1 V c).share_full (fun _ => rfl) w
  hbody V c := (obligation1 V c).toRRel

/-- Kernel 2's facts. -/
def facts2 : Stage.Facts (nD := nD) (τ := τ) (U := UU) (Val := Elt F) cfgs (defs₀ (F := F)) 2 where
  win := launch2.win
  block_pos := launch2.block_pos
  arr_whole := launch2.arr_whole
  stage_whole := launch2.stage_whole
  dat V c := (dat2 V c).toR
  hA V c w := A_eq2 V c w
  hΦ V c t := Φ_eq2 V c t
  howed _ _ _ := rfl
  hrec _ _ _ := rfl
  hshare V c w := (dat2 V c).share_full (fun _ => rfl) w
  hbody V c := (obligation2 V c).loose.toR

variable (m : (ℓ : Loc nD τ sig) → Buf (Elt F) ℓ)

/-! What the unscoped buffers may hold after each item. -/

def Q0 (c : Dev nD) (V : Valuation τ sig (Elt F)) : Prop := V = fun b => m ((c : Thread nD τ).1, b)
def Q1 (c : Dev nD) : Valuation τ sig (Elt F) → Prop := Stage.Post hostOps0 (Q0 m c)
def Q2 (c : Dev nD) : Valuation τ sig (Elt F) → Prop := Stage.Post hostOps0_1 (Q1 m c)
def Q3 (c : Dev nD) : Valuation τ sig (Elt F) → Prop := Stage.Post hostOps0_2 (Q2 m c)
def Q4 (c : Dev nD) : Valuation τ sig (Elt F) → Prop := Stage.Ran (facts0 (F := F)) c (Q3 m c)
def Q5 (c : Dev nD) : Valuation τ sig (Elt F) → Prop := Stage.Ran (facts1 (F := F)) c (Q4 m c)
def Q6 (c : Dev nD) : Valuation τ sig (Elt F) → Prop := Stage.Post hostOps2 (Q5 m c)
def Q7 (c : Dev nD) : Valuation τ sig (Elt F) → Prop := Stage.Ran (facts2 (F := F)) c (Q6 m c)
def Q8 (c : Dev nD) : Valuation τ sig (Elt F) → Prop := Stage.Post hostOps3 (Q7 m c)

abbrev tick (q : Fin 3) (c : Dev nD) : sProp 𝕄 :=
  Stage.tickets (Val := Elt F) (cfgs := cfgs) (embR : Emb _ 𝕄) q c

/-- The tickets of the three kernels, one by one. -/
theorem tickets_split (c : Dev nD) :
    (Stage.allTickets (Val := Elt F) (cfgs := cfgs) c : sProp 𝕄) = iprop(tick (F := F) 0 c ∗ tick (F := F) 1 c ∗ tick (F := F) 2 c) :=
  bigSep_univ_eq_bigSepL [(0 : Fin 3), (1 : Fin 3), (2 : Fin 3)] (by decide) (by decide) _

/-- A host stretch as a stage. -/
def stretch (ops : List (HloOp τ sig (Elt F)))
    (hs : ops.Forall fun op => op.bufs ⊆ StableHlo.tcRefs τ sig) (hf : ops.Forall fun op => op.fresh = ∅)
    (Q : Dev nD → Valuation τ sig (Elt F) → Prop) (R : Dev nD → sProp 𝕄) :
    Pipeline.HostSeg (Ix := Unit) (Name := ℕ) (U := UU) (Lvl := ℕ) (Stage.pcs cfgs) (defs₀ (F := F)) Variants.none Stage.L Stage.lv :=
  Stage.host cfgs defs₀ ops (fun op h => Pipeline.sub_ucRefs op ((List.forall_iff_forall_mem.mp hs) op h))
    (fun op h => (List.forall_iff_forall_mem.mp hf) op h) Q R

/-- The program's items. -/
abbrev items : List (Pipeline.RDat.Seg (Ix := Unit) (Name := ℕ) (U := UU) (Lvl := ℕ) (Stage.pcs cfgs) (Stage.adm cfgs)
    (Stage.nothing (Val := Elt F) (cfgs := cfgs)) () (defs₀ (F := F)) Variants.none Stage.L Stage.lv) :=
  [ .host (stretch hostOps0 hostOps0_sub hostOps0_fresh (Q0 m) fun c => iprop(Stage.idle c ∗ Stage.allTickets (Val := Elt F) (cfgs := cfgs) c)),
    .host (stretch hostOps0_1 hostOps0_1_sub hostOps0_1_fresh (Q1 m) fun c => iprop(Stage.idle c ∗ Stage.allTickets (Val := Elt F) (cfgs := cfgs) c)),
    .host (stretch hostOps0_2 hostOps0_2_sub hostOps0_2_fresh (Q2 m) fun c => iprop(Stage.idle c ∗ Stage.allTickets (Val := Elt F) (cfgs := cfgs) c)),
    .host (Stage.region (facts0 (F := F)) cellOf_inj embR (Q3 m) fun c => iprop(tick (F := F) 1 c ∗ tick (F := F) 2 c)),
    .host (Stage.region (facts1 (F := F)) cellOf_inj embR (Q4 m) fun c => tick (F := F) 2 c),
    .host (stretch hostOps2 hostOps2_sub hostOps2_fresh (Q5 m) fun c => iprop(Stage.idle c ∗ tick (F := F) 2 c)),
    .host (Stage.region (facts2 (F := F)) cellOf_inj embR (Q6 m) fun _ => BI.emp),
    .host (stretch hostOps3 hostOps3_sub hostOps3_fresh (Q7 m) fun c => iprop(Stage.idle c ∗ BI.emp)) ]

set_option maxHeartbeats 2000000 in
set_option backward.isDefEq.respectTransparency.types false in
/-- THE RUN: from any memory with zero counters the program ends, every core's unscoped buffers holding what the items allow
    and every counter at zero. -/
theorem run_all (g : Dev nD → PrngReg) :
    θ_run defs (onTc (τ := τ) (main (F := F))) ⟨m, fun _ => 0, g⟩ fun r =>
      (∀ c : Dev nD, ∃ V, Q8 m c V ∧ ∀ b ∈ Pipeline.ucRefs τ sig, r.2.mem ((c : Thread nD τ).1, b) = V b) ∧ r.2.sem = fun _ => 0 := by
  refine Stage.launch (cfgs := cfgs) (defs₀ := defs₀ (F := F)) cellOf_inj regions_no_unscoped m g main (items m)
    (fun c Q => by
      rewrite [main_chain c, Pipeline.RDat.Seg.run_eq_chain,
        show (items (F := F) m).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (by simp only [items, Pipeline.RDat.Seg.pipes_host, Pipeline.RDat.Seg.pipes_nil]; exact List.nodup_nil) (Q8 m)
    (fun c => ⟨.rfl, .rfl, .rfl, ?_, ?_, ?_, ?_, .rfl, ?_⟩)
  · show iprop(Stage.some (Q3 m c) c ∗ Stage.idle c ∗ Stage.allTickets (Val := Elt F) (cfgs := cfgs) c)
      ⊢ iprop(Stage.some (Q3 m c) c ∗ (Stage.idle c ∗ tick (F := F) 0 c) ∗ (tick (F := F) 1 c ∗ tick (F := F) 2 c))
    rw [tickets_split]
    iintro ⟨H, Hi, H0, H1, H2⟩
    isplitl [H]; · iexact H
    isplitl [Hi H0]; · isplitl [Hi] <;> iassumption
    isplitl [H1] <;> iassumption
  · show iprop(Stage.some (Q4 m c) c ∗ Stage.idle c ∗ (tick (F := F) 1 c ∗ tick (F := F) 2 c))
      ⊢ iprop(Stage.some (Q4 m c) c ∗ (Stage.idle c ∗ tick (F := F) 1 c) ∗ tick (F := F) 2 c)
    iintro ⟨H, Hi, H1, H2⟩
    isplitl [H]; · iexact H
    isplitl [Hi H1]; · isplitl [Hi] <;> iassumption
    iexact H2
  · exact .rfl
  · show iprop(Stage.some (Q6 m c) c ∗ Stage.idle c ∗ tick (F := F) 2 c)
      ⊢ iprop(Stage.some (Q6 m c) c ∗ (Stage.idle c ∗ tick (F := F) 2 c) ∗ BI.emp)
    iintro ⟨H, Hi, H2⟩
    isplitl [H]; · iexact H
    isplitl [Hi H2]; · isplitl [Hi] <;> iassumption
    iempintro
  · show iprop(Stage.some (Q8 m c) c ∗ Stage.idle c ∗ BI.emp) ⊢ iprop(Stage.some (Q8 m c) c ∗ Stage.idle c)
    iintro ⟨H, Hi, -⟩
    isplitl [H] <;> iassumption

/-! ## The arguments -/

/-- No item writes the reference: no host stretch does, and no kernel has it as an output's array. -/
def Untouched (r : Ref sig .tc) : Prop :=
  r ∉ hostOps0_W ∧ r ∉ hostOps0_1_W ∧ r ∉ hostOps0_2_W
    ∧ (∀ w, r = Pipeline.arrRef spec0 w → (cfg0.win w).isOut = false) ∧ (∀ w, r = Pipeline.arrRef spec1 w → (cfg1.win w).isOut = false)
    ∧ r ∉ hostOps2_W ∧ (∀ w, r = Pipeline.arrRef spec2 w → (cfg2.win w).isOut = false) ∧ r ∉ hostOps3_W

/-- Such a buffer ends as launched. -/
theorem Q8_untouched {r : Ref sig .tc} (h : Untouched r) (c : Dev nD) {V : Valuation τ sig (Elt F)} (hV : Q8 m c V) :
    V (Proc.devRef .tc r) = m ((c.tc : Thread nD τ).loc r) := by
  obtain ⟨h0, h1, h2, h3, h4, h5, h6, h7⟩ := h
  obtain ⟨V7, ⟨V6, ⟨V5, ⟨V4, ⟨V3, ⟨V2, ⟨V1, ⟨V0, rfl, rfl⟩, rfl⟩, rfl⟩, s3⟩, s4⟩, rfl⟩, s6⟩, rfl⟩ := hV
  rw [StableHlo.after_of_writes_sub hostOps3 _ hostOps3_writes h7, Stage.Step.keep s6 h6,
    StableHlo.after_of_writes_sub hostOps2 _ hostOps2_writes h5, Stage.Step.keep s4 h4, Stage.Step.keep s3 h3,
    StableHlo.after_of_writes_sub hostOps0_2 _ hostOps0_2_writes h2, StableHlo.after_of_writes_sub hostOps0_1 _ hostOps0_1_writes h1,
    StableHlo.after_of_writes_sub hostOps0 _ hostOps0_writes h0]

theorem untouched_arg0 : Untouched main_arg0 := by unfold Untouched; decide
theorem untouched_arg1 : Untouched main_arg1 := by unfold Untouched; decide
theorem untouched_arg2 : Untouched main_arg2 := by unfold Untouched; decide
theorem untouched_arg3 : Untouched main_arg3 := by unfold Untouched; decide
theorem untouched_arg4 : Untouched main_arg4 := by unfold Untouched; decide

/-- THE FRAME: the program ends, its arguments as launched and every counter at zero. -/
theorem frame_all (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    obtain ⟨V, hV, hm⟩ := h.1 c
    exact ⟨(hm (Proc.devRef .tc main_arg0) (Finset.mem_filter.mpr ⟨StableHlo.devRef_mem_tcRefs main_arg0, by decide⟩)).trans (Q8_untouched m untouched_arg0 c hV),
      (hm (Proc.devRef .tc main_arg1) (Finset.mem_filter.mpr ⟨StableHlo.devRef_mem_tcRefs main_arg1, by decide⟩)).trans (Q8_untouched m untouched_arg1 c hV),
      (hm (Proc.devRef .tc main_arg2) (Finset.mem_filter.mpr ⟨StableHlo.devRef_mem_tcRefs main_arg2, by decide⟩)).trans (Q8_untouched m untouched_arg2 c hV),
      (hm (Proc.devRef .tc main_arg3) (Finset.mem_filter.mpr ⟨StableHlo.devRef_mem_tcRefs main_arg3, by decide⟩)).trans (Q8_untouched m untouched_arg3 c hV),
      (hm (Proc.devRef .tc main_arg4) (Finset.mem_filter.mpr ⟨StableHlo.devRef_mem_tcRefs main_arg4, by decide⟩)).trans (Q8_untouched m untouched_arg4 c hV)⟩, h.2⟩)
    (run_all m g)

end Cert.KernelIdeal.Body

end
-- ==== Proof.Value.Reference.lean ====
module

public import proofs.«01_k».proof.Proof.Gen.ReferenceIdeal
public import proofs.«01_k».proof.Proof.Gen.ReferenceIdeal.Run
public import Idealize.ShloMosaic.Lib.Pointwise

@[expose] public section

set_option maxRecDepth 16384

noncomputable section

/-! The reference's two results in stages, each stage a function of the ones before it. -/

namespace Cert.ReferenceIdeal.Val

open Cert.ReferenceIdeal Cert.ReferenceIdeal.Gen
open Idealize.ShloMosaic Idealize.ShloMosaic.TcCoe

/-- The layers' inputs to the activation. -/
def pre (a0 : FVec Ideal S16x3x224x224 .f32) (a1 : FVec Ideal S588x1024 .f32) (a2 : FVec Ideal S1024 .f32)
    (a3 : FVec Ideal S2x1024x1024 .f32) (a4 : FVec Ideal S2x1024 .f32) : FVec Ideal S2x4096x1024 .f32 :=
  addf (transpose S2x4096x1024 [0, 2, 1] (Host.dotGeneral dot_S2x1024x1024_S4096x1024_S2x1024x4096_1_1_02_0_n_n none a3 (addf (Host.dotGeneral dot_S4096x588_S588x1024_S4096x1024_1_0_0_1_n_n none (shapeCast _ (transpose S16x16x16x3x14x14 [0, 2, 4, 1, 3, 5] (shapeCast _ a0 shapeCasts_S16x3x224x224_S16x3x16x14x16x14) transposes_S16x3x16x14x16x14_S16x16x16x3x14x14_0_2_4_1_3_5) shapeCasts_S16x16x16x3x14x14_S4096x588) a1) (broadcastInDim S4096x1024 ![0, 1] bcast_S1x1024_S4096x1024_0_1 (broadcastInDim S1x1024 ![1] bcast_S1024_S1x1024_1 a2)))) transposes_S2x1024x4096_S2x4096x1024_0_2_1) (broadcastInDim S2x4096x1024 ![0, 1, 2] bcast_S2x1x1024_S2x4096x1024_0_1_2 (broadcastInDim S2x1x1024 ![0, 2] bcast_S2x1024_S2x1x1024_0_2 a4))

/-- The activation. -/
def act (x : FVec Ideal S2x4096x1024 .f32) : FVec Ideal S2x4096x1024 .f32 :=
  mulf x (mulf (broadcastInDim S2x4096x1024 ![] bcast_S_S2x4096x1024 (constant S_ .f32 0x3F000000#32)) (addf (broadcastInDim S2x4096x1024 ![] bcast_S_S2x4096x1024 (constant S_ .f32 0x3F800000#32)) (Host.tanh (mulf (broadcastInDim S2x4096x1024 ![] bcast_S_S2x4096x1024 (constant S_ .f32 0x3F4C422A#32)) (addf x (mulf (broadcastInDim S2x4096x1024 ![] bcast_S_S2x4096x1024 (constant S_ .f32 0x3D372713#32)) (mulf (mulf x x) x)))))))

/-- The neighbourhood averages. -/
def pooled (f : FVec Ideal S2x4096x1024 .f32) : FVec Ideal S2x16x16x16x1024 .f32 :=
  Host.divf (Host.reduceWindowAdd ![1, 1, 3, 3, 1] ![1, 1, 1, 1, 1] ![0, 0, 1, 1, 0] ![0, 0, 1, 1, 0] (shapeCast _ f shapeCasts_S2x4096x1024_S2x16x16x16x1024) (broadcastInDim S_ ![] bcast_S_S_ (constant S_ .f32 0x00000000#32)) reduceWindows_S2x16x16x16x1024_S2x16x16x16x1024_w1s1p0_0_w1s1p0_0_w3s1p1_1_w3s1p1_1_w1s1p0_0 h_S_)
    (broadcastInDim S2x16x16x16x1024 ![0, 1, 2, 3, 4] bcast_S2x16x16x16x1_S2x16x16x16x1024_0_1_2_3_4 (Host.reduceWindowAdd ![1, 1, 3, 3, 1] ![1, 1, 1, 1, 1] ![0, 0, 1, 1, 0] ![0, 0, 1, 1, 0] (broadcastInDim S2x16x16x16x1 ![] bcast_S_S2x16x16x16x1 (constant S_ .f32 0x3F800000#32)) (broadcastInDim S_ ![] bcast_S_S_ (constant S_ .f32 0x00000000#32)) reduceWindows_S2x16x16x16x1_S2x16x16x16x1_w1s1p0_0_w1s1p0_0_w3s1p1_1_w3s1p1_1_w1s1p0_0 h_S_))

/-- The four feature fields. -/
def fields (f : FVec Ideal S2x4096x1024 .f32) : FVec Ideal S4x4096x1024 .f32 :=
  concatenate S4x4096x1024 0 [⟨S2x4096x1024, f⟩, ⟨S2x4096x1024, shapeCast _ (pooled f) shapeCasts_S2x16x16x16x1024_S2x4096x1024⟩] concatenates_S2x4096x1024_S2x4096x1024_S4x4096x1024_d0

def sums (a : FVec Ideal S4x4096x1024 .f32) : FVec Ideal S4x4096 .f32 :=
  Host.reduceAdd (mulf a a) (constant S_ .f32 0x00000000#32) reducesTo_S4x4096x1024_S4x4096_d2 h_S_

/-- The squared distances between all pairs of positions. -/
def dists (a : FVec Ideal S4x4096x1024 .f32) : FVec Ideal S4x4096x4096 .f32 :=
  subf (addf (broadcastInDim S4x4096x4096 ![0, 1, 2] bcast_S4x4096x1_S4x4096x4096_0_1_2 (broadcastInDim S4x4096x1 ![0, 1] bcast_S4x4096_S4x4096x1_0_1 (sums a))) (broadcastInDim S4x4096x4096 ![0, 1, 2] bcast_S4x1x4096_S4x4096x4096_0_1_2 (broadcastInDim S4x1x4096 ![0, 2] bcast_S4x4096_S4x1x4096_0_2 (sums a)))) (mulf (broadcastInDim S4x4096x4096 ![] bcast_S_S4x4096x4096 (constant S_ .f32 0x40000000#32)) (Host.dotGeneral dot_S4x4096x1024_S4x4096x1024_S4x4096x4096_2_2_1_1_0_0 none a a))

/-- The distances by image, a position's own image at infinity. -/
def split (d : FVec Ideal S4x4096x4096 .f32) : FVec Ideal S4x16x256x16x256 .f32 :=
  select (cmpi .eq (iotaInDim S4x16x256x16x256 32 1) (iotaInDim S4x16x256x16x256 32 3)) (broadcastInDim S4x16x256x16x256 ![] bcast_S_S4x16x256x16x256 (id (constant S_ .f32 0x7F800000#32))) (shapeCast _ d shapeCasts_S4x4096x4096_S4x16x256x16x256)

/-- The distance of each position to each image. -/
def mins (d : FVec Ideal S4x16x256x16x256 .f32) : FVec Ideal S4x16x256x16 .f32 :=
  Host.reduce FloatOps.minimumf d (constant S_ .f32 0x7F800000#32) reducesTo_S4x16x256x16x256_S4x16x256x16_d4 h_S_

/-- The root of each squared distance. -/
def roots (d : FVec Ideal S4x16x256x16 .f32) : FVec Ideal S4x16x256x16 .f32 :=
  Host.sqrt (maximumf d (broadcastInDim S4x16x256x16 ![] bcast_S_S4x16x256x16 (constant S_ .f32 0x2B8CBCCC#32)))

/-- The means of the first five of the sorted distances, and their mean over the fields. -/
def means (s : FVec Ideal S4x16x256x16 .f32) : FVec Ideal S16x256 .f32 :=
  Host.divf (Host.reduceAdd (Host.divf (Host.reduceAdd (shapeCast _ (Host.divf (Host.reduceAdd (extractStridedSlice S4x16x256x5 ![0, 0, 0, 0] s slices_S4x16x256x16_S4x16x256x5_0_0_0_0) (constant S_ .f32 0x00000000#32) reducesTo_S4x16x256x5_S4x16x256_d3 h_S_) (broadcastInDim S4x16x256 ![] bcast_S_S4x16x256 (constant S_ .f32 0x40A00000#32))) shapeCasts_S4x16x256_S2x2x16x256) (constant S_ .f32 0x00000000#32) reducesTo_S2x2x16x256_S2x16x256_d1 h_S_) (broadcastInDim S2x16x256 ![] bcast_S_S2x16x256 (constant S_ .f32 0x40000000#32))) (constant S_ .f32 0x00000000#32) reducesTo_S2x16x256_S16x256_d0 h_S_) (broadcastInDim S16x256 ![] bcast_S_S16x256 (constant S_ .f32 0x40000000#32))

/-- The position scores. -/
def score (a0 : FVec Ideal S16x3x224x224 .f32) (a1 : FVec Ideal S588x1024 .f32) (a2 : FVec Ideal S1024 .f32)
    (a3 : FVec Ideal S2x1024x1024 .f32) (a4 : FVec Ideal S2x1024 .f32) : FVec Ideal S16x256 .f32 :=
  means (Host.sort S4x16x256x16 3 comparator_f32_d3 (roots (mins (split (dists (fields (act (pre a0 a1 a2 a3 a4))))))))

/-- The interpolation weights before they are normalised. -/
def tri : FVec Ideal S224x16 .f32 :=
  maximumf (broadcastInDim S224x16 ![] bcast_S_S224x16 (constant S_ .f32 0x00000000#32)) (subf (broadcastInDim S224x16 ![] bcast_S_S224x16 (constant S_ .f32 0x3F800000#32)) (Host.absf (subf (subf (Host.divf (mulf (addf (sitofp .f32 (iotaInDim S224x16 32 0)) (broadcastInDim S224x16 ![] bcast_S_S224x16 (constant S_ .f32 0x3F000000#32))) (broadcastInDim S224x16 ![] bcast_S_S224x16 (constant S_ .f32 0x41800000#32))) (broadcastInDim S224x16 ![] bcast_S_S224x16 (constant S_ .f32 0x43600000#32))) (broadcastInDim S224x16 ![] bcast_S_S224x16 (constant S_ .f32 0x3F000000#32))) (sitofp .f32 (iotaInDim S224x16 32 1)))))

/-- The interpolation weights. -/
def tab : FVec Ideal S224x16 .f32 :=
  Host.divf tri (broadcastInDim S224x16 ![0, 1] bcast_S224x1_S224x16_0_1 (broadcastInDim S224x1 ![0] bcast_S224_S224x1_0 (Host.reduceAdd tri (constant S_ .f32 0x00000000#32) reducesTo_S224x16_S224_d1 h_S_)))

/-- The score maps. -/
def maps (s : FVec Ideal S16x256 .f32) : FVec Ideal S16x224x224 .f32 :=
  transpose S16x224x224 [1, 0, 2] (Host.dotGeneral dot_S224x16x16_S224x16_S224x16x224_2_1_01_0_n_n none (Host.dotGeneral dot_S224x16_S16x16x16_S224x16x16_1_1_0_02_n_n none tab (shapeCast _ s shapeCasts_S16x256_S16x16x16)) tab) transposes_S224x16x224_S16x224x224_1_0_2

/-- The image scores. -/
def tops (s : FVec Ideal S16x256 .f32) : FVec Ideal S16 .f32 :=
  Host.reduce FloatOps.maximumf s (constant S_ .f32 0xFF800000#32) reducesTo_S16x256_S16_d1 h_S_

variable (m : (ℓ : Loc nD τ sig) → Buf (Elt Ideal) ℓ) (c : Dev nD)

theorem res_maps : Value.res_main_v114 (F := Ideal) m c
    = maps (score (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := rfl

theorem res_tops : Value.res_main_v115 (F := Ideal) m c
    = tops (score (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := rfl

end Cert.ReferenceIdeal.Val
-- ==== Proof.Value.Features.lean ====
module

public import proofs.«01_k».proof.Proof.Ideal.First
public import Idealize.ShloMosaic.Lib.Pointwise

@[expose] public section

set_option maxRecDepth 16384

noncomputable section

/-! The features of one image, and the first kernel's three outputs as those features and their row sums of squares. -/

namespace Cert.Spec

open Idealize.ShloMosaic

/-- The activation, in its hyperbolic tangent form. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- What the network is given besides an image. -/
structure Net where
  wp : Fin 588 → Fin 1024 → EReal
  bp : Fin 1024 → EReal
  wl : Fin 2 → Fin 1024 → Fin 1024 → EReal
  bl : Fin 2 → Fin 1024 → EReal

/-- One layer before its activation, at a patch of an image. -/
def linear (N : Net) (pt : Fin 256 → Fin 588 → EReal) (l : Fin 2) (p : Fin 256) (e : Fin 1024) : EReal :=
  ∑ d, (∑ x, pt p x * N.wp x d + N.bp d) * N.wl l d e + N.bl l e

/-- One layer's features. -/
def layer (N : Net) (pt : Fin 256 → Fin 588 → EReal) (l : Fin 2) (p : Fin 256) (e : Fin 1024) : EReal := gelu (linear N pt l p e)

/-- The four feature maps: the two layers, then the two layers pooled by a matrix. -/
def feature (N : Net) (pm : Fin 256 → Fin 256 → EReal) (pt : Fin 256 → Fin 588 → EReal) (f : Fin 4) (p : Fin 256) (e : Fin 1024) : EReal :=
  if h : f.val < 2 then layer N pt ⟨f, h⟩ p e else ∑ q, pm p q * layer N pt ⟨f - 2, by omega⟩ q e

/-- Being a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} [Fintype ι] {f : ι → EReal} (h : ∀ i, IsReal (f i)) : IsReal (∑ i, f i) := by
  choose g hg using h
  exact ⟨∑ i, g i, by simp only [hg]; exact (map_sum (⟨⟨Real.toEReal, EReal.coe_zero⟩, EReal.coe_add⟩ : ℝ →+ EReal) g Finset.univ).symm⟩
theorem IsReal.sub_self {x : EReal} (hx : IsReal x) : x - x = 0 := by
  obtain ⟨a, rfl⟩ := hx; exact EReal.sub_self (EReal.coe_ne_top a) (EReal.coe_ne_bot a)

theorem half_value : Ideal.ofBits .f32 0x3F000000#32 = ((1 / 2 : ℝ) : EReal) := by
  simp [Ideal.ofBits, Ideal.ieee, -EReal.coe_mul]; norm_num

theorem IsReal.gelu {x : EReal} (hx : IsReal x) : IsReal (gelu x) := by
  have h1 : IsReal (Ideal.ofBits .f32 0x3F4C422A#32) := ⟨_, by simp [Ideal.ofBits, Ideal.ieee, -EReal.coe_mul]; rfl⟩
  have h2 : IsReal (Ideal.ofBits .f32 0x3D372713#32) := ⟨_, by simp [Ideal.ofBits, Ideal.ieee, -EReal.coe_mul]; rfl⟩
  have h3 : IsReal 1 := ⟨1, EReal.coe_one.symm⟩
  have ht : ∀ {y : EReal}, IsReal y → IsReal (Ideal.tanh y) := by rintro y ⟨r, rfl⟩; exact ⟨_, rfl⟩
  exact hx.mul (IsReal.mul ⟨_, half_value⟩ (h3.add (ht (h1.mul (hx.add (h2.mul (hx.mul (hx.mul hx))))))))

/-- Every entry of the network is a real number. -/
structure Net.Real (N : Net) : Prop where
  wp : ∀ x d, IsReal (N.wp x d)
  bp : ∀ d, IsReal (N.bp d)
  wl : ∀ l d e, IsReal (N.wl l d e)
  bl : ∀ l e, IsReal (N.bl l e)

theorem layer_real {N : Net} (hN : N.Real) {pt : Fin 256 → Fin 588 → EReal} (hp : ∀ p x, IsReal (pt p x)) (l : Fin 2) (p : Fin 256) (e : Fin 1024) :
    IsReal (layer N pt l p e) :=
  IsReal.gelu (IsReal.add (IsReal.sum fun d => IsReal.mul (IsReal.add (IsReal.sum fun x => (hp p x).mul (hN.wp x d)) (hN.bp d)) (hN.wl l d e)) (hN.bl l e))

theorem feature_real {N : Net} (hN : N.Real) {pm : Fin 256 → Fin 256 → EReal} (hm : ∀ p q, IsReal (pm p q)) {pt : Fin 256 → Fin 588 → EReal}
    (hp : ∀ p x, IsReal (pt p x)) (f : Fin 4) (p : Fin 256) (e : Fin 1024) : IsReal (feature N pm pt f p e) := by
  unfold feature
  split
  · exact layer_real hN hp _ _ _
  · exact IsReal.sum fun q => (hm p q).mul (layer_real hN hp _ _ _)

end Cert.Spec

namespace Cert.KernelIdeal.Val

open Cert.KernelIdeal Cert.KernelIdeal.Gen Cert.Spec
open Idealize.ShloMosaic

/-! ## The kernel's own steps on any operands -/

theorem act_apply (w : FVec Ideal S1024x1024 .f32) (v9 : FVec Ideal S1024x1024 .f32) (v3 : Vec Ideal S1x1024x1024 .f32) (v6 : Vec Ideal S1x1024 .f32) (n e : Fin 1024) :
    k0_pay23 (k0_pay21 v9 v3 v6) (k0_pay22 v9 v3 v6) (ix2 n e) = gelu (k0_pay21 v9 v3 v6 (ix2 n e)) := by
  have h : k0_pay22 v9 v3 v6 (ix2 n e) = Ideal.tanh (Ideal.ofBits .f32 0x3F4C422A#32 * (k0_pay21 v9 v3 v6 (ix2 n e) + Ideal.ofBits .f32 0x3D372713#32
      * (k0_pay21 v9 v3 v6 (ix2 n e) * (k0_pay21 v9 v3 v6 (ix2 n e) * k0_pay21 v9 v3 v6 (ix2 n e))))) := by
    unfold k0_pay22
    generalize k0_pay21 v9 v3 v6 = w
    pointwise []
  have h' : ∀ a b : FVec Ideal S1024x1024 .f32, k0_pay23 a b (ix2 n e) = a (ix2 n e) * (Ideal.ofBits .f32 0x3F000000#32 * (1 + b (ix2 n e))) := by
    intro a b; pointwise [k0_pay23]
  rw [h', h]; rfl

theorem linear_apply (v9 : FVec Ideal S1024x1024 .f32) (v3 : Vec Ideal S1x1024x1024 .f32) (v6 : Vec Ideal S1x1024 .f32) (n e : Fin 1024) :
    k0_pay21 v9 v3 v6 (ix2 n e) = ∑ x, v9 (ix2 n x) * v3 (ix3 0 x e) + v6 (ix2 0 e) := by
  pointwise [k0_pay21]

theorem embed_apply (v0 : Vec Ideal S4x256x588 .bf16) (v3 : Vec Ideal S588x1024 .f32) (v6 : Vec Ideal S1024 .f32) (n e : Fin 1024) :
    k0_pay6 v0 v3 v6 (ix2 n e) = ∑ x, v0 (ix3 ⟨n / 256, by omega⟩ ⟨n % 256, by omega⟩ x) * v3 (ix2 x e) + v6 (ix1 e) := by
  pointwise [k0_pay6]

/-- A row of the pooled features: the pooling matrix's row against the same image's rows. -/
theorem pool_apply (v11 : FVec Ideal S256x256 .f32) (v35 : FVec Ideal S1024x1024 .f32) (i : Fin 4) (p : Fin 256) (e : Fin 1024) :
    k0_pay15 v11 v35 (ix2 ⟨i * 256 + p, by omega⟩ e) = ∑ q : Fin 256, v11 (ix2 p q) * v35 (ix2 ⟨i * 256 + q, by omega⟩ e) := by
  have h : ∀ (n m : Fin 1024) (a b : ℕ) (ha : a < 256) (hn : a = p) (hb : ∀ x : Fin 256, b + x.val < 1024) (hm : b = i * 256),
      (∑ x : Fin 256, v11 (ix2 ⟨a, ha⟩ x) * v35 (ix2 ⟨b + x, hb x⟩ e)) = ∑ q : Fin 256, v11 (ix2 p q) * v35 (ix2 ⟨i * 256 + q, by omega⟩ e) := by
    intro n m a b ha hn hb hm; subst hn; subst hm; rfl
  pointwise [k0_pay15]
  split
  · refine Eq.trans (Finset.sum_congr rfl fun x _ => ?_) (h 0 0 (i * 256 + p) 0 (by omega) (by omega) (fun x => by omega) (by omega))
    exact congrArg (_ * v35 ·) (congrArg (ix2 · e) (Fin.ext (Nat.zero_add _).symm))
  · split
    · exact h 0 0 _ _ _ (by omega) (fun x => by omega) (by omega)
    · split
      · exact h 0 0 _ _ _ (by omega) (fun x => by omega) (by omega)
      · exact h 0 0 _ _ _ (by omega) (fun x => by omega) (by omega)

theorem store_apply (v : FVec Ideal S1024x1024 .f32) (i : Fin 4) (p : Fin 256) (e : Fin 1024) :
    k0_pay17 (truncf .bf16 (shapeCast S4x256x1024 v shapeCasts_S1024x1024_S4x256x1024) bitsLt_bf16_f32) (ix4 0 i p e)
      = v (ix2 ⟨i * 256 + p, by omega⟩ e) := by
  pointwise [k0_pay17]

theorem wide_apply (v : FVec Ideal S1024x1024 .f32) (hv : ∀ n e, IsReal (v (ix2 n e))) (i : Fin 4) (p : Fin 256) (e : Fin 128) :
    k0_pay13 (k0_pay8 (F := Ideal)) v (ix4 0 i p e) = ∑ x, v (ix2 ⟨i * 256 + p, by omega⟩ x) * v (ix2 ⟨i * 256 + p, by omega⟩ x) := by
  pointwise [k0_pay13, k0_pay12, k0_pay8]
  simp only [((hv _ _).mul (hv _ _)).sub_self, Finset.sum_const_zero, add_zero]

theorem line_apply (v : FVec Ideal S1024x1024 .f32) (e : Fin 1024) :
    k0_pay14 v (ix3 0 0 e) = ∑ x, v (ix2 e x) * v (ix2 e x) := by
  pointwise [k0_pay14, k0_pay12]

/-! ## The body's stages -/

theorem load2 (x : Vec Ideal S2x1024x1024 .f32) (l : Fin 2) (off : Fin 3 → ℕ) (inb) (h : off = ![l.val, 0, 0]) (d e : Fin 1024) :
    View.ld x (Rect.unit (s := S2x1024x1024) off S1x1024x1024.size inb) (ix3 0 d e) = x (ix3 l d e) := by
  subst h
  refine congrArg x (funext fun a => ?_)
  match a with
  | ⟨0, _⟩ => rfl
  | ⟨1, _⟩ => exact Fin.ext (by change 0 + 1 * d.val = d.val; omega)
  | ⟨2, _⟩ => exact Fin.ext (by change 0 + 1 * e.val = e.val; omega)

theorem load1 (x : Vec Ideal S2x1024 .f32) (l : Fin 2) (off : Fin 2 → ℕ) (inb) (h : off = ![l.val, 0]) (e : Fin 1024) :
    View.ld x (Rect.unit (s := S2x1024) off S1x1024.size inb) (ix2 0 e) = x (ix2 l e) := by
  subst h
  refine congrArg x (funext fun a => ?_)
  match a with
  | ⟨0, _⟩ => rfl
  | ⟨1, _⟩ => exact Fin.ext (by change 0 + 1 * e.val = e.val; omega)

section
variable (x0 : Vec Ideal S4x256x588 .bf16) (x1 : Vec Ideal S588x1024 .f32) (x2 : Vec Ideal S1024 .f32) (x3 : Vec Ideal S2x1024x1024 .f32)
  (x4 : Vec Ideal S2x1024 .f32) (x5 : Vec Ideal S256x256 .f32)

/-- The network of the operands. -/
def net : Net where
  wp x d := x1 (ix2 x d)
  bp d := x2 (ix1 d)
  wl l d e := x3 (ix3 l d e)
  bl l e := x4 (ix2 l e)

theorem emb_apply (i : Fin 4) (p : Fin 256) (d : Fin 1024) :
    Body.emb x0 x1 x2 (ix2 ⟨i * 256 + p, by omega⟩ d) = ∑ x, x0 (ix3 i p x) * x1 (ix2 x d) + x2 (ix1 d) := by
  unfold Body.emb
  rw [View.ld_unit_zero (by funext a; fin_cases a <;> rfl), View.ld_unit_zero (by funext a; fin_cases a <;> rfl),
    View.ld_unit_zero (by funext a; fin_cases a <;> rfl), embed_apply]
  have h1 : (⟨(i * 256 + p) / 256, by omega⟩ : Fin 4) = i := Fin.ext (by dsimp only; omega)
  have h2 : (⟨(i * 256 + p) % 256, by omega⟩ : Fin 256) = p := Fin.ext (by dsimp only; omega)
  simp only [h1, h2]

/-- Layer `l`'s features in the kernel's own terms. -/
def act (l : Fin 2) : FVec Ideal S1024x1024 .f32 := if l.val = 0 then Body.lay0 x0 x1 x2 x3 x4 else Body.lay1 x0 x1 x2 x3 x4

theorem lay_apply (l : Fin 2) (i : Fin 4) (p : Fin 256) (e : Fin 1024) :
    act x0 x1 x2 x3 x4 l (ix2 ⟨i * 256 + p, by omega⟩ e) = layer (net x1 x2 x3 x4) (fun p x => x0 (ix3 i p x)) l p e := by
  have key : ∀ (off : Fin 3 → ℕ) (inb) (off' : Fin 2 → ℕ) (inb') (h : off = ![l.val, 0, 0]) (h' : off' = ![l.val, 0]),
      k0_pay23 (k0_pay21 (Body.emb x0 x1 x2) (View.ld x3 (Rect.unit (s := S2x1024x1024) off S1x1024x1024.size inb)) (View.ld x4 (Rect.unit (s := S2x1024) off' S1x1024.size inb')))
        (k0_pay22 (Body.emb x0 x1 x2) (View.ld x3 (Rect.unit (s := S2x1024x1024) off S1x1024x1024.size inb)) (View.ld x4 (Rect.unit (s := S2x1024) off' S1x1024.size inb')))
        (ix2 ⟨i * 256 + p, by omega⟩ e) = layer (net x1 x2 x3 x4) (fun p x => x0 (ix3 i p x)) l p e := by
    intro off inb off' inb' h h'
    rw [act_apply (Body.emb x0 x1 x2), linear_apply, load1 _ l _ _ h']
    refine congrArg gelu (congrArg (· + _) (Finset.sum_congr rfl fun d _ => ?_))
    rw [load2 _ l _ _ h, emb_apply]; rfl
  obtain rfl | rfl : l = 0 ∨ l = 1 := by omega
  · exact key ![0, 0, 0] inb_S2x1024x1024_S1x1024x1024_0_0_0 ![0, 0] inb_S2x1024_S1x1024_0_0 rfl rfl
  · exact key ![1, 0, 0] inb_S2x1024x1024_S1x1024x1024_1_0_0 ![1, 0] inb_S2x1024_S1x1024_1_0 rfl rfl

/-- Feature map `f` in the kernel's own terms. -/
def feat (f : Fin 4) : FVec Ideal S1024x1024 .f32 :=
  if h : f.val < 2 then act x0 x1 x2 x3 x4 ⟨f, h⟩ else k0_pay15 (Body.pool x0 x1 x2 x3 x4 x5) (act x0 x1 x2 x3 x4 ⟨f - 2, by omega⟩)

theorem feat_apply (f i : Fin 4) (p : Fin 256) (e : Fin 1024) :
    feat x0 x1 x2 x3 x4 x5 f (ix2 ⟨i * 256 + p, by omega⟩ e)
      = feature (net x1 x2 x3 x4) (fun p q => x5 (ix2 p q)) (fun p x => x0 (ix3 i p x)) f p e := by
  have hp : Body.pool x0 x1 x2 x3 x4 x5 = x5 := by
    unfold Body.pool
    rw [View.ld_unit_zero (by funext a; fin_cases a <;> rfl)]
    exact shapeCast_self _ _
  unfold feat feature
  by_cases h : f.val < 2
  · rw [dif_pos h, dif_pos h, lay_apply]
  · rw [dif_neg h, dif_neg h, pool_apply, hp]
    exact Finset.sum_congr rfl fun q _ => by rw [lay_apply]

theorem outF_eq : Body.outF x0 x1 x2 x3 x4 x5 = View.canon [
    ⟨Body.rF3, k0_pay17 (truncf .bf16 (shapeCast S4x256x1024 (feat x0 x1 x2 x3 x4 x5 3) shapeCasts_S1024x1024_S4x256x1024) bitsLt_bf16_f32)⟩,
    ⟨Body.rF1, k0_pay17 (truncf .bf16 (shapeCast S4x256x1024 (feat x0 x1 x2 x3 x4 x5 1) shapeCasts_S1024x1024_S4x256x1024) bitsLt_bf16_f32)⟩,
    ⟨Body.rF2, k0_pay17 (truncf .bf16 (shapeCast S4x256x1024 (feat x0 x1 x2 x3 x4 x5 2) shapeCasts_S1024x1024_S4x256x1024) bitsLt_bf16_f32)⟩,
    ⟨Body.rF0, k0_pay17 (truncf .bf16 (shapeCast S4x256x1024 (feat x0 x1 x2 x3 x4 x5 0) shapeCasts_S1024x1024_S4x256x1024) bitsLt_bf16_f32)⟩] := rfl

theorem outB_eq : Body.outB x0 x1 x2 x3 x4 x5 = View.canon [
    ⟨Body.rB3, k0_pay13 (k0_pay8 (F := Ideal)) (feat x0 x1 x2 x3 x4 x5 3)⟩, ⟨Body.rB1, k0_pay13 (k0_pay8 (F := Ideal)) (feat x0 x1 x2 x3 x4 x5 1)⟩,
    ⟨Body.rB2, k0_pay13 (k0_pay8 (F := Ideal)) (feat x0 x1 x2 x3 x4 x5 2)⟩, ⟨Body.rB0, k0_pay13 (k0_pay8 (F := Ideal)) (feat x0 x1 x2 x3 x4 x5 0)⟩] := rfl

theorem outL_eq : Body.outL x0 x1 x2 x3 x4 x5 = View.canon [
    ⟨Body.rL3, k0_pay14 (feat x0 x1 x2 x3 x4 x5 3)⟩, ⟨Body.rL1, k0_pay14 (feat x0 x1 x2 x3 x4 x5 1)⟩,
    ⟨Body.rL2, k0_pay14 (feat x0 x1 x2 x3 x4 x5 2)⟩, ⟨Body.rL0, k0_pay14 (feat x0 x1 x2 x3 x4 x5 0)⟩] := rfl

/-! ## The three outputs -/

/-- The features the operands make. -/
def spec (f i : Fin 4) (p : Fin 256) (e : Fin 1024) : EReal :=
  feature (net x1 x2 x3 x4) (fun p q => x5 (ix2 p q)) (fun p x => x0 (ix3 i p x)) f p e

theorem outF_apply (f i : Fin 4) (p : Fin 256) (e : Fin 1024) : Body.outF x0 x1 x2 x3 x4 x5 (ix4 f i p e) = spec x0 x1 x2 x3 x4 x5 f i p e := by
  have key : ∀ (g : Fin 4) (off : Fin 4 → ℕ) (inb) (h : off = ![g.val, 0, 0, 0]) (y : S1x4x256x1024.Idx),
      k0_pay17 (truncf .bf16 (shapeCast S4x256x1024 (feat x0 x1 x2 x3 x4 x5 g) shapeCasts_S1024x1024_S4x256x1024) bitsLt_bf16_f32) y
        = (fun y : S4x4x256x1024.Idx => spec x0 x1 x2 x3 x4 x5 (y 0) (y 1) (y 2) (y 3)) ((Rect.unit (s := S4x4x256x1024) off S1x4x256x1024.size inb).emb y) := by
    intro g off inb h y
    subst h
    idx_vars y
    obtain rfl : y0 = 0 := Fin.fin_one_eq_zero _
    rw [store_apply, feat_apply]
    have e : (Rect.unit (s := S4x4x256x1024) _ S1x4x256x1024.size inb).emb (ix4 0 y1 y2 y3) = ix4 g y1 y2 y3 := funext fun a => match a with
      | ⟨0, _⟩ => rfl
      | ⟨1, _⟩ => Fin.ext (by change 0 + 1 * y1.val = y1.val; omega)
      | ⟨2, _⟩ => Fin.ext (by change 0 + 1 * y2.val = y2.val; omega)
      | ⟨3, _⟩ => Fin.ext (by change 0 + 1 * y3.val = y3.val; omega)
    rw [e]; rfl
  rw [outF_eq, View.canon_apply_of_pieces (S := S4x4x256x1024) (e := .bf16) (Val := Elt Ideal)
    (fun y => spec x0 x1 x2 x3 x4 x5 (y 0) (y 1) (y 2) (y 3)) _ ?_ _ (Body.coverF _ _ _ _ _)]
  · rfl
  · intro pc hpc
    simp only [List.mem_cons, List.not_mem_nil, or_false] at hpc
    rcases hpc with rfl | rfl | rfl | rfl
    exacts [key 3 _ inb_S4x4x256x1024_S1x4x256x1024_3_0_0_0 rfl, key 1 _ inb_S4x4x256x1024_S1x4x256x1024_1_0_0_0 rfl, key 2 _ inb_S4x4x256x1024_S1x4x256x1024_2_0_0_0 rfl, key 0 _ inb_S4x4x256x1024_S1x4x256x1024_0_0_0_0 rfl]

theorem feat_real (h : ∀ f i p e, IsReal (spec x0 x1 x2 x3 x4 x5 f i p e)) (f : Fin 4) (n e : Fin 1024) : IsReal (feat x0 x1 x2 x3 x4 x5 f (ix2 n e)) := by
  have hn : n = ⟨(⟨n.val / 256, by omega⟩ : Fin 4).val * 256 + (⟨n.val % 256, by omega⟩ : Fin 256).val, by dsimp only; omega⟩ := Fin.ext (by dsimp only; omega)
  rw [hn, feat_apply]; exact h _ _ _ _

theorem outB_apply (hr : ∀ f i p e, IsReal (spec x0 x1 x2 x3 x4 x5 f i p e)) (f i : Fin 4) (p : Fin 256) (l : Fin 128) :
    Body.outB x0 x1 x2 x3 x4 x5 (ix4 f i p l) = ∑ e, spec x0 x1 x2 x3 x4 x5 f i p e * spec x0 x1 x2 x3 x4 x5 f i p e := by
  have key : ∀ (g : Fin 4) (off : Fin 4 → ℕ) (inb) (h : off = ![g.val, 0, 0, 0]) (y : S1x4x256x128.Idx),
      k0_pay13 (k0_pay8 (F := Ideal)) (feat x0 x1 x2 x3 x4 x5 g) y
        = (fun y : S4x4x256x128.Idx => ∑ e, spec x0 x1 x2 x3 x4 x5 (y 0) (y 1) (y 2) e * spec x0 x1 x2 x3 x4 x5 (y 0) (y 1) (y 2) e)
          ((Rect.unit (s := S4x4x256x128) off S1x4x256x128.size inb).emb y) := by
    intro g off inb h y
    subst h
    idx_vars y
    obtain rfl : y0 = 0 := Fin.fin_one_eq_zero _
    rw [wide_apply _ (feat_real x0 x1 x2 x3 x4 x5 hr g)]
    have e : (Rect.unit (s := S4x4x256x128) _ S1x4x256x128.size inb).emb (ix4 0 y1 y2 y3) = ix4 g y1 y2 y3 := funext fun a => match a with
      | ⟨0, _⟩ => rfl
      | ⟨1, _⟩ => Fin.ext (by change 0 + 1 * y1.val = y1.val; omega)
      | ⟨2, _⟩ => Fin.ext (by change 0 + 1 * y2.val = y2.val; omega)
      | ⟨3, _⟩ => Fin.ext (by change 0 + 1 * y3.val = y3.val; omega)
    rw [e]
    exact Finset.sum_congr rfl fun e _ => by rw [feat_apply]; rfl
  rw [outB_eq, View.canon_apply_of_pieces (S := S4x4x256x128) (e := .f32) (Val := Elt Ideal)
    (fun y => ∑ e, spec x0 x1 x2 x3 x4 x5 (y 0) (y 1) (y 2) e * spec x0 x1 x2 x3 x4 x5 (y 0) (y 1) (y 2) e) _ ?_ _ (Body.coverB _ _ _ _ _)]
  · rfl
  · intro pc hpc
    simp only [List.mem_cons, List.not_mem_nil, or_false] at hpc
    rcases hpc with rfl | rfl | rfl | rfl
    exacts [key 3 _ inb_S4x4x256x128_S1x4x256x128_3_0_0_0 rfl, key 1 _ inb_S4x4x256x128_S1x4x256x128_1_0_0_0 rfl, key 2 _ inb_S4x4x256x128_S1x4x256x128_2_0_0_0 rfl, key 0 _ inb_S4x4x256x128_S1x4x256x128_0_0_0_0 rfl]

theorem outL_apply (f i : Fin 4) (p : Fin 256) :
    Body.outL x0 x1 x2 x3 x4 x5 (ix3 f 0 ⟨i * 256 + p, by omega⟩) = ∑ e, spec x0 x1 x2 x3 x4 x5 f i p e * spec x0 x1 x2 x3 x4 x5 f i p e := by
  have key : ∀ (g : Fin 4) (off : Fin 3 → ℕ) (inb) (h : off = ![g.val, 0, 0]) (y : S1x1x1024.Idx),
      k0_pay14 (feat x0 x1 x2 x3 x4 x5 g) y
        = (fun y : S4x1x1024.Idx => ∑ e, feat x0 x1 x2 x3 x4 x5 (y 0) (ix2 (y 2) e) * feat x0 x1 x2 x3 x4 x5 (y 0) (ix2 (y 2) e))
          ((Rect.unit (s := S4x1x1024) off S1x1x1024.size inb).emb y) := by
    intro g off inb h y
    subst h
    idx_vars y
    obtain rfl : y0 = 0 := Fin.fin_one_eq_zero _
    obtain rfl : y1 = 0 := Fin.fin_one_eq_zero _
    rw [line_apply]
    have e : (Rect.unit (s := S4x1x1024) _ S1x1x1024.size inb).emb (ix3 0 0 y2) = ix3 g 0 y2 := funext fun a => match a with
      | ⟨0, _⟩ => rfl
      | ⟨1, _⟩ => rfl
      | ⟨2, _⟩ => Fin.ext (by change 0 + 1 * y2.val = y2.val; omega)
    rw [e]; rfl
  rw [outL_eq, View.canon_apply_of_pieces (S := S4x1x1024) (e := .f32) (Val := Elt Ideal)
    (fun y => ∑ e, feat x0 x1 x2 x3 x4 x5 (y 0) (ix2 (y 2) e) * feat x0 x1 x2 x3 x4 x5 (y 0) (ix2 (y 2) e)) _ ?_ _ (Body.coverL _ _ _ _ _)]
  · exact Finset.sum_congr rfl fun e _ => congrArg₂ (· * ·) (feat_apply x0 x1 x2 x3 x4 x5 f i p e) (feat_apply x0 x1 x2 x3 x4 x5 f i p e)
  · intro pc hpc
    simp only [List.mem_cons, List.not_mem_nil, or_false] at hpc
    rcases hpc with rfl | rfl | rfl | rfl
    exacts [key 3 _ inb_S4x1x1024_S1x1x1024_3_0_0 rfl, key 1 _ inb_S4x1x1024_S1x1x1024_1_0_0 rfl, key 2 _ inb_S4x1x1024_S1x1x1024_2_0_0 rfl, key 0 _ inb_S4x1x1024_S1x1x1024_0_0_0 rfl]

end
end Cert.KernelIdeal.Val
-- ==== Proof.Value.Pairs.lean ====
module

public import proofs.«01_k».proof.Proof.Ideal.Second
public import Idealize.ShloMosaic.Lib.Pointwise

@[expose] public section

set_option maxRecDepth 16384

noncomputable section

/-! The second kernel's two outputs at a grid point, element by element. -/

namespace Cert.KernelIdeal.Val

open Cert.KernelIdeal Cert.KernelIdeal.Gen
open Idealize.ShloMosaic

/-- The two image groups of a grid point. -/
def groupA (t : ℕ) : Fin 4 :=
  if t / 2 % 5 < 3 then (if t % 2 = 0 then 3 else ⟨(t / 2 % 5 + 1) % 3, by omega⟩) else ⟨(t / 2 % 5 - 3) * 2 + t % 2, by omega⟩
def groupB (t : ℕ) : Fin 4 :=
  if t / 2 % 5 < 3 then (if t % 2 = 0 then ⟨t / 2 % 5 % 4, by omega⟩ else ⟨(t / 2 % 5 + 2) % 3, by omega⟩) else ⟨(t / 2 % 5 - 3) * 2 + t % 2, by omega⟩

theorem offset1 : ∀ t : Fin grid1.N, k1_off1 (grid1.coords t) = ![0, 4 * (groupA t).val, 0, 0] := by decide +kernel
theorem offset2 : ∀ t : Fin grid1.N, k1_off2 (grid1.coords t) = ![0, 4 * (groupB t).val, 0, 0] := by decide +kernel
theorem offset3 : ∀ t : Fin grid1.N, k1_off3 (grid1.coords t) = ![0, 4 * (groupA t).val, 0, 0] := by decide +kernel
theorem offset4 : ∀ t : Fin grid1.N, k1_off4 (grid1.coords t) = ![0, 4 * (groupB t).val, 0, 0] := by decide +kernel

/-- Image `i` of group `g`. -/
def member (g i : Fin 4) : Fin 16 := ⟨4 * g + i, by omega⟩

theorem load_features (x : Vec Ideal S1x16x256x1024 .bf16) (off : Fin 4 → ℕ) (inb) (g : Fin 4) (h : off = ![0, 4 * g.val, 0, 0])
    (i : Fin 4) (p : Fin 256) (d : Fin 1024) :
    View.ld x (Rect.unit (s := S1x16x256x1024) off S1x4x256x1024.size inb) (ix4 0 i p d) = x (ix4 0 (member g i) p d) := by
  subst h
  refine congrArg x (funext fun a => ?_)
  match a with
  | ⟨0, _⟩ => rfl
  | ⟨1, _⟩ => exact Fin.ext (by change 4 * g.val + 1 * i.val = 4 * g.val + i.val; omega)
  | ⟨2, _⟩ => exact Fin.ext (by change 0 + 1 * p.val = p.val; omega)
  | ⟨3, _⟩ => exact Fin.ext (by change 0 + 1 * d.val = d.val; omega)

theorem load_squares (x : Vec Ideal S1x16x256x128 .f32) (off : Fin 4 → ℕ) (inb) (g : Fin 4) (h : off = ![0, 4 * g.val, 0, 0])
    (i : Fin 4) (p : Fin 256) (d : Fin 128) :
    View.ld x (Rect.unit (s := S1x16x256x128) off S1x4x256x128.size inb) (ix4 0 i p d) = x (ix4 0 (member g i) p d) := by
  subst h
  refine congrArg x (funext fun a => ?_)
  match a with
  | ⟨0, _⟩ => rfl
  | ⟨1, _⟩ => exact Fin.ext (by change 4 * g.val + 1 * i.val = 4 * g.val + i.val; omega)
  | ⟨2, _⟩ => exact Fin.ext (by change 0 + 1 * p.val = p.val; omega)
  | ⟨3, _⟩ => exact Fin.ext (by change 0 + 1 * d.val = d.val; omega)

theorem pay_first (x y : Vec Ideal S1x4x256x1024 .bf16) (z : Vec Ideal S1x4x256x128 .f32) (s : Fin 4 → Fin 256 → EReal)
    (hz : ∀ i p l, z (ix4 0 i p l) = s i p) (i : Fin 4) (k : Fin 1024) :
    k1_pay3 (k1_pay5 x) y z (ix4 0 0 i k) = Finset.univ.fold min (Ideal.ofBits .f32 0x7F800000#32)
      fun p : Fin 256 => s i p - Ideal.ofBits .f32 0x40000000#32 * ∑ d : Fin 1024, y (ix4 0 i p d) * x (ix4 0 ⟨k / 256, by omega⟩ ⟨k % 256, by omega⟩ d) := by
  pointwise [k1_pay3, k1_pay5, k1_pay1, k1_pay2]
  simp only [hz, dite_eq_ite, ite_self]

theorem pay_second (x y : Vec Ideal S1x4x256x1024 .bf16) (z : Vec Ideal S1x4x256x128 .f32) (s : Fin 4 → Fin 256 → EReal)
    (hz : ∀ i p l, z (ix4 0 i p l) = s i p) (i : Fin 4) (k : Fin 1024) :
    k1_pay4 (k1_pay5 x) y z (ix4 0 0 i k) = Finset.univ.fold min (Ideal.ofBits .f32 0x7F800000#32)
      fun p : Fin 256 => s i p - Ideal.ofBits .f32 0x40000000#32 * ∑ d : Fin 1024, x (ix4 0 i p d) * y (ix4 0 ⟨k / 256, by omega⟩ ⟨k % 256, by omega⟩ d) := by
  pointwise [k1_pay4, k1_pay5, k1_pay1, k1_pay2]
  simp only [hz, dite_eq_ite, ite_self]

/-- The least reduced squared distance from the positions of one image to one position of another. -/
def reduced (a : Fin 16 → Fin 256 → Fin 1024 → EReal) (s : Fin 16 → Fin 256 → EReal) (b : Fin 16) (p : Fin 256) (b' : Fin 16) : EReal :=
  Finset.univ.fold min (Ideal.ofBits .f32 0x7F800000#32)
    fun q : Fin 256 => s b' q - Ideal.ofBits .f32 0x40000000#32 * ∑ d : Fin 1024, a b' q d * a b p d

variable (t : Fin grid1.N) (x0 : Vec Ideal S1x16x256x1024 .bf16) (x1 : Vec Ideal S1x16x256x128 .f32)
  (a : Fin 16 → Fin 256 → Fin 1024 → EReal) (s : Fin 16 → Fin 256 → EReal)
  (ha : ∀ b p d, x0 (ix4 0 b p d) = a b p d) (hs : ∀ b p l, x1 (ix4 0 b p l) = s b p) (i : Fin 4) (k : Fin 1024)

include ha hs

theorem first_apply :
    Body.outA (grid1.coords t) x0 x1 (ix4 0 0 i k)
      = reduced a s (member (groupA t) ⟨k / 256, by omega⟩) ⟨k % 256, by omega⟩ (member (groupB t) i) := by
  unfold Body.outA
  rw [View.canon_unit_zero (by funext a; fin_cases a <;> rfl), pay_first _ _ _ (fun i p => s (member (groupB t) i) p)
    (fun i p l => by rw [load_squares _ _ _ (groupB t) (offset4 t), hs])]
  refine Finset.fold_congr fun p _ => congrArg (s (member (groupB t) i) p - Ideal.ofBits .f32 0x40000000#32 * ·) (Finset.sum_congr rfl fun d _ => ?_)
  exact congrArg₂ (· * ·) ((load_features _ _ _ (groupB t) (offset2 t) _ _ _).trans (ha _ _ _))
    ((load_features _ _ _ (groupA t) (offset1 t) _ _ _).trans (ha _ _ _))

theorem second_apply :
    Body.outM (grid1.coords t) x0 x1 (ix4 0 0 i k)
      = reduced a s (member (groupB t) ⟨k / 256, by omega⟩) ⟨k % 256, by omega⟩ (member (groupA t) i) := by
  unfold Body.outM
  rw [View.canon_unit_zero (by funext a; fin_cases a <;> rfl), pay_second _ _ _ (fun i p => s (member (groupA t) i) p)
    (fun i p l => by rw [load_squares _ _ _ (groupA t) (offset3 t), hs])]
  refine Finset.fold_congr fun p _ => congrArg (s (member (groupA t) i) p - Ideal.ofBits .f32 0x40000000#32 * ·) (Finset.sum_congr rfl fun d _ => ?_)
  exact congrArg₂ (· * ·) ((load_features _ _ _ (groupA t) (offset1 t) _ _ _).trans (ha _ _ _))
    ((load_features _ _ _ (groupB t) (offset2 t) _ _ _).trans (ha _ _ _))

end Cert.KernelIdeal.Val
-- ==== Proof.Value.Blocks.lean ====
module

public import proofs.«01_k».proof.Proof.Stage
public import Idealize.ShloMosaic.Lib.Pipeline.Value
public import Idealize.ShloMosaic.Lib.Pipeline.ArrRel
public import Idealize.ShloMosaic.Lib.Pipeline.DatRel

@[expose] public section

noncomputable section

/-! What a kernel leaves in an output array whose blocks do not overlap: each block is what the body left there. -/

namespace Cert.Stage

open Idealize.ShloMosaic Idealize.ShloMosaic.TcCoe
open Idealize.SL Idealize.SL.RA
open Idealize.ShloMosaic.Pipeline

variable {nD : Nat} {τ : Topo} {sig : RefSig} {Val : EltTy → Type} {Λ₀ : Idealize.SL.Sem.Labels} {U : Type} [URA U]
variable [∀ e, Nonempty (Val e)] {cfg : Cfg sig Λ₀} {c : Dev nD}

theorem block_of_arrAt {rd : RDat τ Val Unit ℕ U ℕ cfg c} {w : Fin cfg.W} {G : Buf Val ((cfg.win w).arr.view.loc (c.tc : Thread nD τ))}
    (hG : rd.ArrAt w cfg.N G) (hk : (cfg.win w).kind = .blocked) (hdisj : ∀ t t' : Fin cfg.N, t ≠ t' → (cfg.win w).index t ≠ (cfg.win w).index t')
    (t : Fin cfg.N) (hf : (cfg.win w).flush t = true) :
    ∃ X, rd.Leaves w t X ∧ ∀ y, G (((cfg.win w).blk t).view.emb y)
      = _root_.cast (congrArg Val ((cfg.win w).blk t).view.elt_eq.symm) ((cfg.win w).cut (cfg.grid.coords t) X y) := by
  obtain ⟨X, hX, hA⟩ := hG.exists_exact
  refine ⟨X t, hX t t.isLt hf, fun y => ?_⟩
  have e := hA (Function.update (fun _ _ _ => Classical.arbitrary _) w X) fun u _ _ => by rw [Function.update_self]
  rw [e, Dat.arrAt_emb_eq_flushed _ w (fun t t' _ _ hn => (cfg.win w).disjoint_blk (hdisj t t' hn) (hk := hk)) t hf y]
  unfold Dat.flushed
  rw [RDat.withAfter_after, Function.update_self]

theorem block_of_exact {d : Dat τ Val Unit ℕ U ℕ cfg c} {w : Fin cfg.W} {G : Buf Val ((cfg.win w).arr.view.loc (c.tc : Thread nD τ))}
    (hG : d.toR.ArrAt w cfg.N G) (hk : (cfg.win w).kind = .blocked) (hdisj : ∀ t t' : Fin cfg.N, t ≠ t' → (cfg.win w).index t ≠ (cfg.win w).index t')
    (t : Fin cfg.N) (hf : (cfg.win w).flush t = true) (y) :
    G (((cfg.win w).blk t).view.emb y)
      = _root_.cast (congrArg Val ((cfg.win w).blk t).view.elt_eq.symm) ((cfg.win w).cut (cfg.grid.coords t) (d.after w t) y) := by
  rw [(d.toR_arrAt_iff w cfg.N G).mp hG, Dat.arrAt_emb_eq_flushed _ w (fun t t' _ _ hn => (cfg.win w).disjoint_blk (hdisj t t' hn) (hk := hk)) t hf y]

theorem block_of_free {d : Dat τ Val Unit ℕ U ℕ cfg c} {fgt : Fin cfg.W → Bool} {Rl} {w : Fin cfg.W} {G : Buf Val ((cfg.win w).arr.view.loc (c.tc : Thread nD τ))}
    (hG : (d.toRRel fgt Rl).ArrAt w cfg.N G) (hw : fgt w = false) (hk : (cfg.win w).kind = .blocked) (hdisj : ∀ t t' : Fin cfg.N, t ≠ t' → (cfg.win w).index t ≠ (cfg.win w).index t')
    (t : Fin cfg.N) (hf : (cfg.win w).flush t = true) (y) :
    G (((cfg.win w).blk t).view.emb y)
      = _root_.cast (congrArg Val ((cfg.win w).blk t).view.elt_eq.symm) ((cfg.win w).cut (cfg.grid.coords t) (d.after w t) y) :=
  block_of_exact ((d.toR.override_arrAt (by simp only [hw]) cfg.N G).mp hG) hk hdisj t hf y

theorem block_of_held {d : Dat τ Val Unit ℕ U ℕ cfg c} {fgt : Fin cfg.W → Bool} {Rl} {w : Fin cfg.W} {G : Buf Val ((cfg.win w).arr.view.loc (c.tc : Thread nD τ))}
    (hG : (d.toRRel fgt Rl).ArrAt w cfg.N G) (hw : fgt w = true) (hk : (cfg.win w).kind = .blocked) (hdisj : ∀ t t' : Fin cfg.N, t ≠ t' → (cfg.win w).index t ≠ (cfg.win w).index t')
    (t : Fin cfg.N) (hf : (cfg.win w).flush t = true) :
    ∃ X, Rl w t X ∧ ∀ y, G (((cfg.win w).blk t).view.emb y)
      = _root_.cast (congrArg Val ((cfg.win w).blk t).view.elt_eq.symm) ((cfg.win w).cut (cfg.grid.coords t) X y) := by
  obtain ⟨X, hX, hy⟩ := block_of_arrAt hG hk hdisj t hf
  exact ⟨X, d.toRRel_leaves hw hX, hy⟩

end Cert.Stage
-- ==== Proof.Value.Arrays.lean ====
module

public import proofs.«01_k».proof.Proof.Ideal.Run
public import proofs.«01_k».proof.Proof.Value.Features
public import proofs.«01_k».proof.Proof.Value.Pairs
public import proofs.«01_k».proof.Proof.Value.Blocks

@[expose] public section

set_option maxRecDepth 16384

noncomputable section

/-! What the three kernels leave in their output arrays, element by element. -/

namespace Cert.KernelIdeal.Val

open Cert.KernelIdeal Cert.KernelIdeal.Gen Cert.Spec
open Idealize.ShloMosaic Idealize.ShloMosaic.TcCoe
open Idealize.ShloMosaic.Pipeline (Dat Cfg Window)

variable {c : Dev nD} {V V' : Valuation τ sig (Elt Ideal)}

/-! ## The first kernel -/

theorem index0_0 : ∀ t : Fin grid0.N, win0_0.index t = ![t.val, 0, 0] := by decide +kernel
theorem index0_6 : ∀ t : Fin grid0.N, win0_6.index t = ![0, t.val, 0, 0] := by decide +kernel
theorem index0_7 : ∀ t : Fin grid0.N, win0_7.index t = ![0, t.val, 0, 0] := by decide +kernel
theorem index0_8 : ∀ t : Fin grid0.N, win0_8.index t = ![0, 0, t.val] := by decide +kernel

theorem emb0_6 (t : Fin grid0.N) (f i : Fin 4) (p : Fin 256) (e : Fin 1024) :
    ((win0_6.blk t).view.emb (ix4 f i p e) : S4x16x256x1024.Idx) = ix4 f ⟨4 * t + i, by have : t.val < 4 := t.isLt; omega⟩ p e := by
  have h := fun a => Window.rect_emb_val win0_6 t (ix4 f i p e) a
  rw [index0_6] at h
  funext a
  match a with
  | ⟨0, _⟩ => exact Fin.ext ((h 0).trans (by change 0 * 4 + f.val = f.val; omega))
  | ⟨1, _⟩ => exact Fin.ext ((h 1).trans (by change t.val * 4 + i.val = 4 * t.val + i.val; omega))
  | ⟨2, _⟩ => exact Fin.ext ((h 2).trans (by change 0 * 256 + p.val = p.val; omega))
  | ⟨3, _⟩ => exact Fin.ext ((h 3).trans (by change 0 * 1024 + e.val = e.val; omega))

theorem emb0_7 (t : Fin grid0.N) (f i : Fin 4) (p : Fin 256) (e : Fin 128) :
    ((win0_7.blk t).view.emb (ix4 f i p e) : S4x16x256x128.Idx) = ix4 f ⟨4 * t + i, by have : t.val < 4 := t.isLt; omega⟩ p e := by
  have h := fun a => Window.rect_emb_val win0_7 t (ix4 f i p e) a
  rw [index0_7] at h
  funext a
  match a with
  | ⟨0, _⟩ => exact Fin.ext ((h 0).trans (by change 0 * 4 + f.val = f.val; omega))
  | ⟨1, _⟩ => exact Fin.ext ((h 1).trans (by change t.val * 4 + i.val = 4 * t.val + i.val; omega))
  | ⟨2, _⟩ => exact Fin.ext ((h 2).trans (by change 0 * 256 + p.val = p.val; omega))
  | ⟨3, _⟩ => exact Fin.ext ((h 3).trans (by change 0 * 128 + e.val = e.val; omega))

theorem emb0_8 (t : Fin grid0.N) (f : Fin 4) (n : Fin 1024) :
    ((win0_8.blk t).view.emb (ix3 f 0 n) : S4x1x4096.Idx) = ix3 f 0 ⟨1024 * t + n, by have : t.val < 4 := t.isLt; omega⟩ := by
  have h := fun a => Window.rect_emb_val win0_8 t (ix3 f 0 n) a
  rw [index0_8] at h
  funext a
  match a with
  | ⟨0, _⟩ => exact Fin.ext ((h 0).trans (by change 0 * 4 + f.val = f.val; omega))
  | ⟨1, _⟩ => exact Fin.ext (h 1)
  | ⟨2, _⟩ => exact Fin.ext ((h 2).trans (by change t.val * 1024 + n.val = 1024 * t.val + n.val; omega))

theorem emb0_0 (t : Fin grid0.N) (i : Fin 4) (p : Fin 256) (x : Fin 588) :
    ((win0_0.blk t).view.emb (ix3 i p x) : S16x256x588.Idx) = ix3 ⟨4 * t + i, by have : t.val < 4 := t.isLt; omega⟩ p x := by
  have h := fun a => Window.rect_emb_val win0_0 t (ix3 i p x) a
  rw [index0_0] at h
  funext a
  match a with
  | ⟨0, _⟩ => exact Fin.ext ((h 0).trans (by change t.val * 4 + i.val = 4 * t.val + i.val; omega))
  | ⟨1, _⟩ => exact Fin.ext ((h 1).trans (by change 0 * 256 + p.val = p.val; omega))
  | ⟨2, _⟩ => exact Fin.ext ((h 2).trans (by change 0 * 588 + x.val = x.val; omega))

theorem blk0_0 (t : Fin grid0.N) (i : Fin 4) (p : Fin 256) (x : Fin 588) :
    Body.blk0 V 0 t (ix3 i p x) = V main_v3 (ix3 ⟨4 * t + i, by have : t.val < 4 := t.isLt; omega⟩ p x) :=
  congrArg (V main_v3) (emb0_0 t i p x)

theorem sep0_6 : ∀ t t' : Fin cfg0.N, t ≠ t' → (cfg0.win 6).index t ≠ (cfg0.win 6).index t' := fun t t' hn h => hn (by
  have e : win0_6.index t = win0_6.index t' := h
  rw [index0_6, index0_6] at e; exact Fin.ext (congrFun e 1))

theorem array0_6 (s : Stage.Step (Body.facts0 (F := Ideal)) c V V') (t : Fin grid0.N) (f i : Fin 4) (p : Fin 256) (e : Fin 1024) :
    V' main_v30_0 (ix4 f ⟨4 * t + i, by have : t.val < 4 := t.isLt; omega⟩ p e)
      = Body.outF (Body.blk0 V 0 t) (Body.blk0 V 1 t) (Body.blk0 V 2 t) (Body.blk0 V 3 t) (Body.blk0 V 4 t) (Body.blk0 V 5 t) (ix4 f i p e) := by
  rw [← Body.after0_6 V c t]
  have hs : (Body.dat0 V c).toR.ArrAt 6 cfg0.N (V' main_v30_0) := s.1 6
  have h := Stage.block_of_exact hs rfl sep0_6 t (flush0_6 t) (ix4 f i p e)
  refine (congrArg (V' main_v30_0) (emb0_6 t f i p e)).symm.trans (h.trans ?_)
  generalize (Body.dat0 V c).after 6 t = X
  rfl

theorem sep0_7 : ∀ t t' : Fin cfg0.N, t ≠ t' → (cfg0.win 7).index t ≠ (cfg0.win 7).index t' := fun t t' hn h => hn (by
  have e : win0_7.index t = win0_7.index t' := h
  rw [index0_7, index0_7] at e; exact Fin.ext (congrFun e 1))

theorem array0_7 (s : Stage.Step (Body.facts0 (F := Ideal)) c V V') (t : Fin grid0.N) (f i : Fin 4) (p : Fin 256) (e : Fin 128) :
    V' main_v30_1 (ix4 f ⟨4 * t + i, by have : t.val < 4 := t.isLt; omega⟩ p e)
      = Body.outB (Body.blk0 V 0 t) (Body.blk0 V 1 t) (Body.blk0 V 2 t) (Body.blk0 V 3 t) (Body.blk0 V 4 t) (Body.blk0 V 5 t) (ix4 f i p e) := by
  rw [← Body.after0_7 V c t]
  have hs : (Body.dat0 V c).toR.ArrAt 7 cfg0.N (V' main_v30_1) := s.1 7
  have h := Stage.block_of_exact hs rfl sep0_7 t (flush0_7 t) (ix4 f i p e)
  refine (congrArg (V' main_v30_1) (emb0_7 t f i p e)).symm.trans (h.trans ?_)
  generalize (Body.dat0 V c).after 7 t = X
  rfl

theorem sep0_8 : ∀ t t' : Fin cfg0.N, t ≠ t' → (cfg0.win 8).index t ≠ (cfg0.win 8).index t' := fun t t' hn h => hn (by
  have e : win0_8.index t = win0_8.index t' := h
  rw [index0_8, index0_8] at e; exact Fin.ext (congrFun e 2))

theorem array0_8 (s : Stage.Step (Body.facts0 (F := Ideal)) c V V') (t : Fin grid0.N) (f : Fin 4) (n : Fin 1024) :
    V' main_v30_2 (ix3 f 0 ⟨1024 * t + n, by have : t.val < 4 := t.isLt; omega⟩)
      = Body.outL (Body.blk0 V 0 t) (Body.blk0 V 1 t) (Body.blk0 V 2 t) (Body.blk0 V 3 t) (Body.blk0 V 4 t) (Body.blk0 V 5 t) (ix3 f 0 n) := by
  rw [← Body.after0_8 V c t]
  have hs : (Body.dat0 V c).toR.ArrAt 8 cfg0.N (V' main_v30_2) := s.1 8
  have h := Stage.block_of_exact hs rfl sep0_8 t (flush0_8 t) (ix3 f 0 n)
  refine (congrArg (V' main_v30_2) (emb0_8 t f n)).symm.trans (h.trans ?_)
  generalize (Body.dat0 V c).after 8 t = X
  rfl

theorem index0_1 : ∀ t : Fin grid0.N, win0_1.index t = ![0, 0] := by decide +kernel
theorem index0_2 : ∀ t : Fin grid0.N, win0_2.index t = ![0] := by decide +kernel
theorem index0_3 : ∀ t : Fin grid0.N, win0_3.index t = ![0, 0, 0] := by decide +kernel
theorem index0_4 : ∀ t : Fin grid0.N, win0_4.index t = ![0, 0] := by decide +kernel
theorem index0_5 : ∀ t : Fin grid0.N, win0_5.index t = ![0, 0] := by decide +kernel

theorem blk0_1 (t : Fin grid0.N) (x : Fin 588) (d : Fin 1024) : Body.blk0 V 1 t (ix2 x d) = V main_arg1 (ix2 x d) := by
  refine congrArg (V main_arg1) (funext fun a => ?_)
  have h := fun a => Window.rect_emb_val win0_1 t (ix2 x d) a
  rw [index0_1] at h
  match a with
  | ⟨0, _⟩ => exact Fin.ext ((h 0).trans (by change 0 * 588 + x.val = x.val; omega))
  | ⟨1, _⟩ => exact Fin.ext ((h 1).trans (by change 0 * 1024 + d.val = d.val; omega))

theorem blk0_2 (t : Fin grid0.N) (d : Fin 1024) : Body.blk0 V 2 t (ix1 d) = V main_arg2 (ix1 d) := by
  refine congrArg (V main_arg2) (funext fun a => ?_)
  have h := fun a => Window.rect_emb_val win0_2 t (ix1 d) a
  rw [index0_2] at h
  match a with
  | ⟨0, _⟩ => exact Fin.ext ((h 0).trans (by change 0 * 1024 + d.val = d.val; omega))

theorem blk0_3 (t : Fin grid0.N) (l : Fin 2) (d e : Fin 1024) : Body.blk0 V 3 t (ix3 l d e) = V main_arg3 (ix3 l d e) := by
  refine congrArg (V main_arg3) (funext fun a => ?_)
  have h := fun a => Window.rect_emb_val win0_3 t (ix3 l d e) a
  rw [index0_3] at h
  match a with
  | ⟨0, _⟩ => exact Fin.ext ((h 0).trans (by change 0 * 2 + l.val = l.val; omega))
  | ⟨1, _⟩ => exact Fin.ext ((h 1).trans (by change 0 * 1024 + d.val = d.val; omega))
  | ⟨2, _⟩ => exact Fin.ext ((h 2).trans (by change 0 * 1024 + e.val = e.val; omega))

theorem blk0_4 (t : Fin grid0.N) (l : Fin 2) (e : Fin 1024) : Body.blk0 V 4 t (ix2 l e) = V main_arg4 (ix2 l e) := by
  refine congrArg (V main_arg4) (funext fun a => ?_)
  have h := fun a => Window.rect_emb_val win0_4 t (ix2 l e) a
  rw [index0_4] at h
  match a with
  | ⟨0, _⟩ => exact Fin.ext ((h 0).trans (by change 0 * 2 + l.val = l.val; omega))
  | ⟨1, _⟩ => exact Fin.ext ((h 1).trans (by change 0 * 1024 + e.val = e.val; omega))

theorem blk0_5 (t : Fin grid0.N) (p q : Fin 256) : Body.blk0 V 5 t (ix2 p q) = V main_v29 (ix2 p q) := by
  refine congrArg (V main_v29) (funext fun a => ?_)
  have h := fun a => Window.rect_emb_val win0_5 t (ix2 p q) a
  rw [index0_5] at h
  match a with
  | ⟨0, _⟩ => exact Fin.ext ((h 0).trans (by change 0 * 256 + p.val = p.val; omega))
  | ⟨1, _⟩ => exact Fin.ext ((h 1).trans (by change 0 * 256 + q.val = q.val; omega))

/-- The features the first kernel's entry contents make. -/
def feats (V : Valuation τ sig (Elt Ideal)) (f : Fin 4) (b : Fin 16) (p : Fin 256) (e : Fin 1024) : EReal :=
  feature (net (V main_arg1) (V main_arg2) (V main_arg3) (V main_arg4)) (fun p q => V main_v29 (ix2 p q)) (fun p x => V main_v3 (ix3 b p x)) f p e

/-- Their row sums of squares. -/
def squares (V : Valuation τ sig (Elt Ideal)) (f : Fin 4) (b : Fin 16) (p : Fin 256) : EReal := ∑ e, feats V f b p e * feats V f b p e

theorem feature_congr {N N' : Net} {pm pm' : Fin 256 → Fin 256 → EReal} {pt pt' : Fin 256 → Fin 588 → EReal} (hN : N = N') (hm : pm = pm') (hp : pt = pt')
    (f : Fin 4) (p : Fin 256) (e : Fin 1024) : feature N pm pt f p e = feature N' pm' pt' f p e := by
  subst hN hm hp; rfl

theorem spec_blk (t : Fin grid0.N) (f i : Fin 4) (p : Fin 256) (e : Fin 1024) :
    spec (Body.blk0 V 0 t) (Body.blk0 V 1 t) (Body.blk0 V 2 t) (Body.blk0 V 3 t) (Body.blk0 V 4 t) (Body.blk0 V 5 t) f i p e
      = feats V f ⟨4 * t + i, by have : t.val < 4 := t.isLt; omega⟩ p e := by
  have hn : net (Body.blk0 V 1 t) (Body.blk0 V 2 t) (Body.blk0 V 3 t) (Body.blk0 V 4 t)
      = net (V main_arg1) (V main_arg2) (V main_arg3) (V main_arg4) := by
    unfold net
    simp only [Net.mk.injEq]
    exact ⟨funext₂ fun x d => blk0_1 t x d, funext fun d => blk0_2 t d, funext fun l => funext₂ fun d e => blk0_3 t l d e, funext₂ fun l e => blk0_4 t l e⟩
  have hm : (fun p q => Body.blk0 V 5 t (ix2 p q)) = fun p q => V main_v29 (ix2 p q) := funext₂ fun p q => blk0_5 t p q
  have hp : (fun p x => Body.blk0 V 0 t (ix3 i p x)) = fun p x => V main_v3 (ix3 ⟨4 * t + i, by have : t.val < 4 := t.isLt; omega⟩ p x) :=
    funext₂ fun p x => blk0_0 t i p x
  exact feature_congr hn hm hp f p e

/-- An image as a grid point and a place in its group. -/
theorem image_split (b : Fin 16) : b = ⟨4 * (⟨b.val / 4, by omega⟩ : Fin 4).val + (⟨b.val % 4, by omega⟩ : Fin 4).val, by dsimp only; omega⟩ :=
  Fin.ext (by dsimp only; omega)

theorem features_of_step (s : Stage.Step (Body.facts0 (F := Ideal)) c V V') (f : Fin 4) (b : Fin 16) (p : Fin 256) (e : Fin 1024) :
    V' main_v30_0 (ix4 f b p e) = feats V f b p e := by
  have h := (array0_6 s ⟨b.val / 4, by change b.val / 4 < 4; omega⟩ f ⟨b.val % 4, by omega⟩ p e).trans ((outF_apply _ _ _ _ _ _ _ _ _ _).trans (spec_blk _ _ _ _ _))
  rw [image_split b]; exact h

theorem squares_of_step (s : Stage.Step (Body.facts0 (F := Ideal)) c V V') (hr : ∀ f b p e, IsReal (feats V f b p e)) (f : Fin 4) (b : Fin 16) (p : Fin 256) (l : Fin 128) :
    V' main_v30_1 (ix4 f b p l) = squares V f b p := by
  have h := (array0_7 s ⟨b.val / 4, by change b.val / 4 < 4; omega⟩ f ⟨b.val % 4, by omega⟩ p l).trans
    ((outB_apply _ _ _ _ _ _ (fun f i p e => (spec_blk ⟨b.val / 4, by change b.val / 4 < 4; omega⟩ f i p e).symm ▸ hr _ _ _ _) _ _ _ _).trans
      (Finset.sum_congr rfl fun e _ => congrArg₂ (· * ·) (spec_blk _ _ _ _ _) (spec_blk _ _ _ _ _)))
  unfold squares
  rw [image_split b]; exact h

theorem lines_of_step (s : Stage.Step (Body.facts0 (F := Ideal)) c V V') (f : Fin 4) (b : Fin 16) (p : Fin 256) :
    V' main_v30_2 (ix3 f 0 ⟨b * 256 + p, by omega⟩) = squares V f b p := by
  have h := (array0_8 s ⟨b.val / 4, by change b.val / 4 < 4; omega⟩ f ⟨b.val % 4 * 256 + p, by omega⟩).trans
    ((outL_apply _ _ _ _ _ _ f ⟨b.val % 4, by omega⟩ p).trans
      (Finset.sum_congr rfl fun e _ => congrArg₂ (· * ·) (spec_blk _ _ _ _ _) (spec_blk _ _ _ _ _)))
  have e : (⟨b * 256 + p, by omega⟩ : Fin 4096) = ⟨1024 * (b.val / 4) + (b.val % 4 * 256 + p), by omega⟩ := Fin.ext (by dsimp only; omega)
  unfold squares
  rw [e]
  refine h.trans ?_
  rw [← image_split b]

/-! ## The second kernel -/

theorem index1_0 : ∀ t : Fin grid1.N, win1_0.index t = ![t.val / 10, 0, 0, 0] := by decide +kernel
theorem index1_1 : ∀ t : Fin grid1.N, win1_1.index t = ![t.val / 10, 0, 0, 0] := by decide +kernel
theorem index1_2 : ∀ t : Fin grid1.N, win1_2.index t = ![t.val / 10, t.val / 2 % 5, 0, (groupA t).val] := by decide +kernel
theorem index1_3 : ∀ t : Fin grid1.N, win1_3.index t = ![t.val / 10, t.val / 2 % 5, 0, (groupB t).val] := by decide +kernel

theorem sep1_2 : ∀ t t' : Fin cfg1.N, t ≠ t' → (cfg1.win 2).index t ≠ (cfg1.win 2).index t' := fun t t' hn h => hn (by
  have e : win1_2.index t = win1_2.index t' := h
  rw [index1_2, index1_2] at e
  have e0 : t.val / 10 = t'.val / 10 := congrFun e 0
  have e1 : t.val / 2 % 5 = t'.val / 2 % 5 := congrFun e 1
  have e3 : (groupA t).val = (groupA t').val := congrFun e 3
  have key : ∀ t t' : Fin 40, t.val / 10 = t'.val / 10 → t.val / 2 % 5 = t'.val / 2 % 5 → (groupA t).val = (groupA t').val → t = t' := by decide +kernel
  exact key t t' e0 e1 e3)

theorem sep1_3 : ∀ t t' : Fin cfg1.N, t ≠ t' → (cfg1.win 3).index t ≠ (cfg1.win 3).index t' := fun t t' hn h => hn (by
  have e : win1_3.index t = win1_3.index t' := h
  rw [index1_3, index1_3] at e
  have e0 : t.val / 10 = t'.val / 10 := congrFun e 0
  have e1 : t.val / 2 % 5 = t'.val / 2 % 5 := congrFun e 1
  have e3 : (groupB t).val = (groupB t').val := congrFun e 3
  have key : ∀ t t' : Fin 40, t.val / 10 = t'.val / 10 → t.val / 2 % 5 = t'.val / 2 % 5 → (groupB t).val = (groupB t').val → t = t' := by decide +kernel
  exact key t t' e0 e1 e3)

theorem emb1_2 (t : Fin grid1.N) (i : Fin 4) (k : Fin 1024) :
    ((win1_2.blk t).view.emb (ix4 0 0 i k) : S4x5x4x4096.Idx)
      = ix4 ⟨t.val / 10, by have : t.val < 40 := t.isLt; omega⟩ ⟨t.val / 2 % 5, by omega⟩ i ⟨1024 * (groupA t).val + k, by omega⟩ := by
  have h := fun a => Window.rect_emb_val win1_2 t (ix4 0 0 i k) a
  rw [index1_2] at h
  funext a
  match a with
  | ⟨0, _⟩ => exact Fin.ext ((h 0).trans (by change t.val / 10 * 1 + 0 = t.val / 10; omega))
  | ⟨1, _⟩ => exact Fin.ext ((h 1).trans (by change t.val / 2 % 5 * 1 + 0 = t.val / 2 % 5; omega))
  | ⟨2, _⟩ => exact Fin.ext ((h 2).trans (by change 0 * 4 + i.val = i.val; omega))
  | ⟨3, _⟩ => exact Fin.ext ((h 3).trans (by change (groupA t).val * 1024 + k.val = 1024 * (groupA t).val + k.val; omega))

theorem emb1_3 (t : Fin grid1.N) (i : Fin 4) (k : Fin 1024) :
    ((win1_3.blk t).view.emb (ix4 0 0 i k) : S4x5x4x4096.Idx)
      = ix4 ⟨t.val / 10, by have : t.val < 40 := t.isLt; omega⟩ ⟨t.val / 2 % 5, by omega⟩ i ⟨1024 * (groupB t).val + k, by omega⟩ := by
  have h := fun a => Window.rect_emb_val win1_3 t (ix4 0 0 i k) a
  rw [index1_3] at h
  funext a
  match a with
  | ⟨0, _⟩ => exact Fin.ext ((h 0).trans (by change t.val / 10 * 1 + 0 = t.val / 10; omega))
  | ⟨1, _⟩ => exact Fin.ext ((h 1).trans (by change t.val / 2 % 5 * 1 + 0 = t.val / 2 % 5; omega))
  | ⟨2, _⟩ => exact Fin.ext ((h 2).trans (by change 0 * 4 + i.val = i.val; omega))
  | ⟨3, _⟩ => exact Fin.ext ((h 3).trans (by change (groupB t).val * 1024 + k.val = 1024 * (groupB t).val + k.val; omega))

theorem blk1_0 (t : Fin grid1.N) (b : Fin 16) (p : Fin 256) (e : Fin 1024) :
    Body.blk1 V 0 t (ix4 0 b p e) = V main_v30_0 (ix4 ⟨t.val / 10, by have : t.val < 40 := t.isLt; omega⟩ b p e) := by
  refine congrArg (V main_v30_0) (funext fun a => ?_)
  have h := fun a => Window.rect_emb_val win1_0 t (ix4 0 b p e) a
  rw [index1_0] at h
  match a with
  | ⟨0, _⟩ => exact Fin.ext ((h 0).trans (by change t.val / 10 * 1 + 0 = t.val / 10; omega))
  | ⟨1, _⟩ => exact Fin.ext ((h 1).trans (by change 0 * 16 + b.val = b.val; omega))
  | ⟨2, _⟩ => exact Fin.ext ((h 2).trans (by change 0 * 256 + p.val = p.val; omega))
  | ⟨3, _⟩ => exact Fin.ext ((h 3).trans (by change 0 * 1024 + e.val = e.val; omega))

theorem blk1_1 (t : Fin grid1.N) (b : Fin 16) (p : Fin 256) (e : Fin 128) :
    Body.blk1 V 1 t (ix4 0 b p e) = V main_v30_1 (ix4 ⟨t.val / 10, by have : t.val < 40 := t.isLt; omega⟩ b p e) := by
  refine congrArg (V main_v30_1) (funext fun a => ?_)
  have h := fun a => Window.rect_emb_val win1_1 t (ix4 0 b p e) a
  rw [index1_1] at h
  match a with
  | ⟨0, _⟩ => exact Fin.ext ((h 0).trans (by change t.val / 10 * 1 + 0 = t.val / 10; omega))
  | ⟨1, _⟩ => exact Fin.ext ((h 1).trans (by change 0 * 16 + b.val = b.val; omega))
  | ⟨2, _⟩ => exact Fin.ext ((h 2).trans (by change 0 * 256 + p.val = p.val; omega))
  | ⟨3, _⟩ => exact Fin.ext ((h 3).trans (by change 0 * 128 + e.val = e.val; omega))

section
variable {a : Fin 4 → Fin 16 → Fin 256 → Fin 1024 → EReal} {q : Fin 4 → Fin 16 → Fin 256 → EReal}
  (ha : ∀ f b p e, V main_v30_0 (ix4 f b p e) = a f b p e) (hq : ∀ f b p l, V main_v30_1 (ix4 f b p l) = q f b p)
include ha hq

theorem array1_2 (s : Stage.Step (Body.facts1 (F := Ideal)) c V V') (t : Fin grid1.N) (i : Fin 4) (k : Fin 1024) :
    V' main_v31_0 (ix4 ⟨t.val / 10, by have : t.val < 40 := t.isLt; omega⟩ ⟨t.val / 2 % 5, by omega⟩ i ⟨1024 * (groupA t).val + k, by omega⟩)
      = reduced (a ⟨t.val / 10, by have : t.val < 40 := t.isLt; omega⟩) (q ⟨t.val / 10, by have : t.val < 40 := t.isLt; omega⟩)
        (member (groupA t) ⟨k / 256, by omega⟩) ⟨k % 256, by omega⟩ (member (groupB t) i) := by
  rw [← first_apply t (Body.blk1 V 0 t) (Body.blk1 V 1 t) _ _ (fun b p d => (blk1_0 t b p d).trans (ha _ _ _ _)) (fun b p l => (blk1_1 t b p l).trans (hq _ _ _ _)) i k,
    ← Body.after1_2 V c t]
  have hs : ((Body.dat1 V c).toRRel Body.held1 (Body.rel1 V)).ArrAt 2 cfg1.N (V' main_v31_0) := s.1 2
  have h := Stage.block_of_free hs rfl rfl sep1_2 t (flush1_2 t) (ix4 0 0 i k)
  refine (congrArg (V' main_v31_0) (emb1_2 t i k)).symm.trans (h.trans ?_)
  generalize (Body.dat1 V c).after 2 t = X
  rfl

theorem array1_3 (s : Stage.Step (Body.facts1 (F := Ideal)) c V V') (t : Fin grid1.N) (ht : t.val / 2 % 5 ≤ 2) (i : Fin 4) (k : Fin 1024) :
    V' main_v31_1 (ix4 ⟨t.val / 10, by have : t.val < 40 := t.isLt; omega⟩ ⟨t.val / 2 % 5, by omega⟩ i ⟨1024 * (groupB t).val + k, by omega⟩)
      = reduced (a ⟨t.val / 10, by have : t.val < 40 := t.isLt; omega⟩) (q ⟨t.val / 10, by have : t.val < 40 := t.isLt; omega⟩)
        (member (groupB t) ⟨k / 256, by omega⟩) ⟨k % 256, by omega⟩ (member (groupA t) i) := by
  rw [← second_apply t (Body.blk1 V 0 t) (Body.blk1 V 1 t) _ _ (fun b p d => (blk1_0 t b p d).trans (ha _ _ _ _)) (fun b p l => (blk1_1 t b p l).trans (hq _ _ _ _)) i k]
  have hs : ((Body.dat1 V c).toRRel Body.held1 (Body.rel1 V)).ArrAt 3 cfg1.N (V' main_v31_1) := s.1 3
  obtain ⟨X, hX, h⟩ := Stage.block_of_held hs rfl rfl sep1_3 t (flush1_3 t)
  have hX' : X = Body.outM (grid1.coords t) (Body.blk1 V 0 t) (Body.blk1 V 1 t) := hX ht
  rw [← hX']
  refine (congrArg (V' main_v31_1) (emb1_3 t i k)).symm.trans ((h (ix4 0 0 i k)).trans ?_)
  generalize X = Y
  rfl

end

end Cert.KernelIdeal.Val
-- ==== Proof.Value.Least.lean ====
module

public import Idealize.ShloMosaic.PureOps
public import Idealize.ShloMosaic.PureOps.Reduce
public import Mathlib.Data.EReal.Basic
public import Mathlib.Data.Multiset.Fold
public import Mathlib.Data.Finset.Fold

@[expose] public section

noncomputable section

/-! The least elements of a multiset of extended reals, one after the other. -/

namespace Cert.Least

open Idealize.ShloMosaic

/-- The least element, or the top one of none. -/
def low (M : Multiset EReal) : EReal := M.fold min ⊤

/-- What is left without the least element. -/
def rest (M : Multiset EReal) : Multiset EReal := M.erase (low M)

/-- The least element after `k` have been taken. -/
def nth (M : Multiset EReal) (k : ℕ) : EReal := low (rest^[k] M)

theorem low_cons (a : EReal) (M : Multiset EReal) : low (a ::ₘ M) = min a (low M) := Multiset.fold_cons_left _ _ _ _

theorem low_zero : low 0 = ⊤ := Multiset.fold_zero _ _

theorem low_mem (M : Multiset EReal) (h : M ≠ 0) : low M ∈ M := by
  induction M using Multiset.induction with
  | empty => exact absurd rfl h
  | cons a M ih =>
    rw [low_cons]
    rcases eq_or_ne M 0 with rfl | hM
    · simp [low_zero]
    · rcases min_choice a (low M) with e | e
      · rw [e]; exact Multiset.mem_cons_self _ _
      · rw [e]; exact Multiset.mem_cons_of_mem (ih hM)

theorem low_le (M : Multiset EReal) {a : EReal} (h : a ∈ M) : low M ≤ a := by
  obtain ⟨N, rfl⟩ := Multiset.exists_cons_of_mem h
  rw [low_cons]
  exact min_le_left _ _

theorem low_cons_rest (M : Multiset EReal) (h : M ≠ 0) : low M ::ₘ rest M = M :=
  Multiset.cons_erase (low_mem M h)

theorem low_eq (M : Multiset EReal) {a : EReal} (h : a ∈ M) (hl : ∀ b ∈ M, a ≤ b) : low M = a :=
  le_antisymm (low_le M h) (hl _ (low_mem M (by rintro rfl; exact absurd h (Multiset.notMem_zero _))))

theorem nth_zero (M : Multiset EReal) : nth M 0 = low M := rfl

theorem nth_succ (M : Multiset EReal) (k : ℕ) : nth M (k + 1) = nth (rest M) k := by
  unfold nth
  rw [Function.iterate_succ_apply]

/-! Top elements put aside change nothing. -/

theorem low_top (M : Multiset EReal) : low (⊤ ::ₘ M) = low M := by
  rw [low_cons]; exact min_eq_right le_top

theorem rest_top (M : Multiset EReal) (h : M ≠ 0) : rest (⊤ ::ₘ M) = ⊤ ::ₘ rest M := by
  unfold rest
  rw [low_top]
  rcases eq_or_ne (low M) ⊤ with e | e
  · rw [e, Multiset.erase_cons_head, Multiset.cons_erase (e ▸ low_mem M h)]
  · exact Multiset.erase_cons_tail _ (Ne.symm e)

theorem rest_zero : rest 0 = 0 := rfl

theorem rest_only : rest (⊤ ::ₘ 0) = 0 := by
  unfold rest
  rw [low_top, low_zero]
  exact Multiset.erase_cons_head _ _

theorem nth_zeros (k : ℕ) : nth 0 k = ⊤ := by
  induction k with
  | zero => exact low_zero
  | succ k ih => rw [nth_succ, rest_zero, ih]

theorem nth_top (M : Multiset EReal) (k : ℕ) : nth (⊤ ::ₘ M) k = nth M k := by
  induction k generalizing M with
  | zero => exact low_top M
  | succ k ih =>
    rw [nth_succ, nth_succ]
    rcases eq_or_ne M 0 with rfl | h
    · rw [rest_only, rest_zero]
    · rw [rest_top M h, ih]

theorem nth_tops (M : Multiset EReal) (n k : ℕ) : nth (M + Multiset.replicate n ⊤) k = nth M k := by
  induction n with
  | zero => simp
  | succ n ih => rw [Multiset.replicate_succ, Multiset.add_cons, nth_top, ih]

/-! Under a map that keeps the order. -/

theorem low_map (g : EReal → EReal) (hg : Monotone g) (M : Multiset EReal) (h : M ≠ 0) :
    low (M.map g) = g (low M) :=
  low_eq _ (Multiset.mem_map_of_mem _ (low_mem M h)) fun b hb => by
    obtain ⟨a, ha, rfl⟩ := Multiset.mem_map.mp hb
    exact hg (low_le M ha)

theorem rest_map (g : EReal → EReal) (hg : Monotone g) (M : Multiset EReal) :
    rest (M.map g) = (rest M).map g := by
  rcases eq_or_ne M 0 with rfl | h
  · rfl
  · have e : M.map g = g (low M) ::ₘ (rest M).map g := by
      rw [← Multiset.map_cons, low_cons_rest M h]
    unfold rest
    rw [low_map g hg M h]
    conv_lhs => rw [e]
    exact Multiset.erase_cons_head _ _

theorem nth_map (g : EReal → EReal) (hg : Monotone g) (M : Multiset EReal) (k : ℕ) (h : k < M.card) :
    nth (M.map g) k = g (nth M k) := by
  induction k generalizing M with
  | zero => exact low_map g hg M (by rintro rfl; simp at h)
  | succ k ih =>
    have h0 : M ≠ 0 := by rintro rfl; simp at h
    rw [nth_succ, nth_succ, rest_map g hg]
    refine ih _ ?_
    have := congrArg Multiset.card (low_cons_rest M h0)
    rw [Multiset.card_cons] at this
    omega

/-! Of an ordered list. -/

theorem nth_list (L : List EReal) (hL : L.Pairwise (· ≤ ·)) (k : ℕ) (h : k < L.length) : nth (L : Multiset EReal) k = L[k] := by
  induction L generalizing k with
  | nil => simp at h
  | cons a L ih =>
    rw [List.pairwise_cons] at hL
    have hl : low ((a :: L : List EReal) : Multiset EReal) = a :=
      low_eq _ (by simp) fun b hb => by
        rcases List.mem_cons.mp (Multiset.mem_coe.mp hb) with rfl | hb
        · exact le_rfl
        · exact hL.1 b hb
    have hr : rest ((a :: L : List EReal) : Multiset EReal) = (L : Multiset EReal) := by
      unfold rest
      rw [hl, ← Multiset.cons_coe, Multiset.erase_cons_head]
    cases k with
    | zero => exact hl
    | succ k =>
      rw [nth_succ, hr]
      exact ih hL.2 k (by simpa using h)

/-! One step of taking the least of the values of a finite family: the first least value becomes the top. -/

theorem low_eq_fold {ι : Type} [Fintype ι] (v : ι → EReal) : low (Finset.univ.val.map v) = Finset.univ.fold min ⊤ v := rfl

theorem taken {ι : Type} [Fintype ι] [DecidableEq ι] (v v' : ι → EReal) (i : ι)
    (hi : v i = low (Finset.univ.val.map v)) (h : ∀ j, v' j = if j = i then ⊤ else v j) :
    Finset.univ.val.map v' = ⊤ ::ₘ rest (Finset.univ.val.map v) := by
  have e : (Finset.univ : Finset ι).val = i ::ₘ (Finset.univ : Finset ι).val.erase i :=
    (Multiset.cons_erase (Finset.mem_univ i)).symm
  have hn : ∀ j ∈ (Finset.univ : Finset ι).val.erase i, j ≠ i := fun j hj hji => by
    subst hji
    exact Multiset.Nodup.notMem_erase Finset.univ.nodup hj
  have h1 : Finset.univ.val.map v' = ⊤ ::ₘ ((Finset.univ : Finset ι).val.erase i).map v := by
    conv_lhs => rw [e]
    rw [Multiset.map_cons, h i, if_pos rfl]
    congr 1
    exact Multiset.map_congr rfl fun j hj => by rw [h j, if_neg (hn j hj)]
  have h2 : Finset.univ.val.map v = v i ::ₘ ((Finset.univ : Finset ι).val.erase i).map v := by
    conv_lhs => rw [e]
    rw [Multiset.map_cons]
  rw [h1]
  congr 1
  unfold rest
  rw [← hi]
  conv_rhs => rw [h2]
  exact (Multiset.erase_cons_head _ _).symm

/-! The code of the first least value. -/

theorem toInt_minsi (a b : BitVec 32) : (IntOp.minsi a b).toInt = min a.toInt b.toInt := by
  unfold IntOp.minsi
  split <;> rename_i h <;> simp only [BitVec.slt, BitVec.sle, decide_eq_true_eq] at h <;> omega

theorem toInt_fold {ι : Type} (s : Finset ι) (b : BitVec 32) (g : ι → BitVec 32) :
    (s.fold IntOp.minsi b g).toInt = s.fold min b.toInt fun i => (g i).toInt :=
  (Finset.fold_hom (op := IntOp.minsi) (op' := min) (m := BitVec.toInt) toInt_minsi).symm

/-- Marking the first value that is at most the least, by its code, takes it. -/
theorem step {ι : Type} [Fintype ι] [DecidableEq ι] [Nonempty ι] (v v' : ι → EReal) (code : ι → BitVec 32) (n : BitVec 32)
    (hc : Function.Injective code) (hn : ∀ i, (code i).toInt < n.toInt) (top : BitVec 32) (ht : n.toInt ≤ top.toInt)
    (h : ∀ j, v' j = if code j = Finset.univ.fold IntOp.minsi top (fun i => if v i ≤ low (Finset.univ.val.map v) then code i else n)
      then ⊤ else v j) :
    Finset.univ.val.map v' = ⊤ ::ₘ rest (Finset.univ.val.map v) := by
  classical
  have hne : Finset.univ.val.map v ≠ 0 := by
    intro h0
    have := congrArg Multiset.card h0
    simp at this
  obtain ⟨i0, _, hi0⟩ := Multiset.mem_map.mp (low_mem _ hne)
  obtain ⟨i, hi, hmin⟩ := Finset.exists_min_image (Finset.univ.filter fun i => v i ≤ low (Finset.univ.val.map v))
    (fun i => (code i).toInt) ⟨i0, Finset.mem_filter.mpr ⟨Finset.mem_univ _, hi0.le⟩⟩
  have hle := (Finset.mem_filter.mp hi).2
  have hvi : v i = low (Finset.univ.val.map v) :=
    le_antisymm hle (low_le _ (Multiset.mem_map_of_mem _ (Finset.mem_univ i)))
  have hf : Finset.univ.fold IntOp.minsi top (fun i => if v i ≤ low (Finset.univ.val.map v) then code i else n) = code i := by
    refine BitVec.eq_of_toInt_eq ?_
    rw [toInt_fold]
    refine le_antisymm ?_ ?_
    · rw [Finset.fold_min_le]
      exact .inr ⟨i, Finset.mem_univ i, by rw [if_pos hle]⟩
    · rw [Finset.le_fold_min]
      refine ⟨((hn i).le.trans ht), fun j _ => ?_⟩
      split
      · rename_i hj
        exact hmin j (Finset.mem_filter.mpr ⟨Finset.mem_univ _, hj⟩)
      · exact (hn i).le
  refine taken v v' i hvi fun j => ?_
  rw [h j, hf]
  simp only [hc.eq_iff]

end Cert.Least
-- ==== Proof.Value.Select.lean ====
module

public import proofs.«01_k».proof.Proof.Ideal.Third
public import proofs.«01_k».proof.Proof.Value.Least
public import Idealize.ShloMosaic.Lib.Pointwise

@[expose] public section

set_option maxRecDepth 16384

noncomputable section

/-! The third kernel's scores, in stages. -/

namespace Cert.KernelIdeal.Val

open Cert.KernelIdeal Cert.KernelIdeal.Gen
open Idealize.ShloMosaic

/-- The least value of each column. -/
def least (v : FVec Ideal S4x5x4x4096 .f32) : FVec Ideal S4x1x1x4096 .f32 :=
  shapeCast S4x1x1x4096 (multiReduction .minimumf [1, 2] S4x4096 v 0x7F800000#32 reduces_S4x5x4x4096_S4x4096 (.inl rfl) rfl) shapeCasts_S4x4096_S4x1x1x4096

/-- Each slot's place in its column. -/
def place : IVec S4x5x4x4096 32 := k2_pay14 Body.rnd Body.opp

/-- The place of the first least value of each column. -/
def firstPlace (v : FVec Ideal S4x5x4x4096 .f32) (w : FVec Ideal S4x1x1x4096 .f32) : IVec S4x4096 32 :=
  multiReductionI .minsi [1, 2] S4x4096 (select (cmpf .ole v (broadcastTo S4x5x4x4096 w broadcasts_S4x1x1x4096_S4x5x4x4096)) place (broadcast S4x5x4x4096 20#32)) 2147483647#32 reduces_S4x5x4x4096_S4x4096 rfl

/-- The column without that value. -/
def strike (v : FVec Ideal S4x5x4x4096 .f32) (p : IVec S4x4096 32) : FVec Ideal S4x5x4x4096 .f32 :=
  select (cmpi .eq place (broadcastTo S4x5x4x4096 (shapeCast S4x1x1x4096 p shapeCasts_S4x4096_S4x1x1x4096) broadcasts_S4x1x1x4096_S4x5x4x4096)) (broadcast S4x5x4x4096 (Named.named κ "big" 0x7F61B1E6#32)) v

def next (v : FVec Ideal S4x5x4x4096 .f32) : FVec Ideal S4x5x4x4096 .f32 := strike v (firstPlace v (least v))

/-- One term of the sum of distances. -/
def term (q m : FVec Ideal S4x1x1x4096 .f32) : FVec Ideal S4x1x1x4096 .f32 :=
  sqrt (maximumf (addf m q) (broadcast S4x1x1x4096 (Scalar.ofBits .f32 0x2B8CBCCC#32)))

/-- The mean over the fields. -/
def meanOf (t : FVec Ideal S4x1x1x4096 .f32) : FVec Ideal S4096 .f32 :=
  mulf (shapeCast S4096 (divf (multiReduction .add [0] S1x1x4096 t 0x00000000#32 reduces_S4x1x1x4096_S1x1x4096 (.inl rfl) rfl) (broadcast S1x1x4096 (Scalar.ofBits .f32 0x40800000#32))) shapeCasts_S1x1x4096_S4096) (broadcast S4096 (Named.named κ "fifth" 0x3E4CCCCD#32))

def sumOf (q m0 m1 m2 m3 m4 : FVec Ideal S4x1x1x4096 .f32) : FVec Ideal S4x1x1x4096 .f32 :=
  addf (addf (addf (addf (addf (broadcast S4x1x1x4096 (Scalar.ofBits .f32 0x00000000#32)) (term q m0)) (term q m1)) (term q m2)) (term q m3)) (term q m4)

/-- The slots' values. -/
def slots (x0 x1 : FVec Ideal S4x5x4x4096 .f32) : FVec Ideal S4x5x4x4096 .f32 :=
  k2_pay13 x0 (k2_pay9 x0 x1 k2_pay5 Body.rnd 4#32 k2_pay6 k2_pay7 0#32) Body.diagOk (k2_pay12 Body.rnd)

theorem scores_eq (x0 x1 : Vec Ideal S4x5x4x4096 .f32) (x2 : Vec Ideal S4x1x4096 .f32) :
    Body.scores x0 x1 x2 = meanOf (sumOf (k2_pay4 (View.ld x2 Body.rQ))
      (least (slots (k2_pay2 (View.ld x0 Body.rD)) (k2_pay3 (View.ld x1 Body.rD))))
      (least (next (slots (k2_pay2 (View.ld x0 Body.rD)) (k2_pay3 (View.ld x1 Body.rD)))))
      (least (next (next (slots (k2_pay2 (View.ld x0 Body.rD)) (k2_pay3 (View.ld x1 Body.rD))))))
      (least (next (next (next (slots (k2_pay2 (View.ld x0 Body.rD)) (k2_pay3 (View.ld x1 Body.rD)))))))
      (least (next (next (next (next (slots (k2_pay2 (View.ld x0 Body.rD)) (k2_pay3 (View.ld x1 Body.rD))))))))) := by
  rfl

/-! Their values. -/

theorem top_word : Ideal.ofBits .f32 0x7F800000#32 = ⊤ := by
  simp [Ideal.ofBits, Ideal.ieee]

theorem big_value : (Named.named κ "big" 0x7F61B1E6#32 : Ideal .f32) = ⊤ :=
  IdealRules.named_const.ideal_named_scalar _ _ _ _ rfl

theorem select_of {α : Type} {c : BitVec 1} {b : Bool} {x x' y y' : α} (h : c = BitVec.ofBool b) (hx : x = x') (hy : y = y') :
    Scalar.select c x y = bif b then x' else y' := by
  subst h hx hy
  cases b <;> rfl

theorem select_eq {α : Type} {w : ℕ} (a b : BitVec w) (x y : α) :
    Scalar.select (IntOp.cmpi .eq a b) x y = if a = b then x else y := by
  refine (select_of (c := IntOp.cmpi .eq a b) (b := a == b) rfl rfl rfl).trans ?_
  by_cases h : a = b
  · simp [h]
  · rw [beq_eq_false_iff_ne.mpr h, if_neg h]
    rfl

theorem drop_column (f : Fin 4) (r : Fin 5) (i : Fin 4) (k : Fin 4096) :
    reduces_S4x5x4x4096_S4x4096.drop (ix4 f r i k) = ix2 f k := by
  funext a
  match a with
  | ⟨0, _⟩ => rfl
  | ⟨1, _⟩ => rfl

theorem column_inj (f : Fin 4) (k : Fin 4096) : Function.Injective fun p : Fin 5 × Fin 4 => (ix4 f p.1 p.2 k : S4x5x4x4096.Idx) := by
  intro p q h
  have h1 : p.1 = q.1 := congrFun h 1
  have h2 : p.2 = q.2 := congrFun h 2
  exact Prod.ext h1 h2

theorem fold_column {β : Type} (op : β → β → β) [Std.Commutative op] [Std.Associative op] (b : β)
    (g : S4x5x4x4096.Idx → β) (f : Fin 4) (k : Fin 4096) :
    Finset.fold op b g {i | reduces_S4x5x4x4096_S4x4096.drop i = ix2 f k}
      = Finset.fold op b (fun p : Fin 5 × Fin 4 => g (ix4 f p.1 p.2 k)) Finset.univ := by
  have e : (({i | reduces_S4x5x4x4096_S4x4096.drop i = ix2 f k} : Finset S4x5x4x4096.Idx))
      = (Finset.univ : Finset (Fin 5 × Fin 4)).map ⟨fun p => ix4 f p.1 p.2 k, column_inj f k⟩ := by
    ext i
    simp only [Finset.mem_filter, Finset.mem_univ, true_and, Finset.mem_map, Function.Embedding.coeFn_mk]
    constructor
    · intro h
      idx_vars i
      rw [drop_column] at h
      refine ⟨(i1, i2), ?_⟩
      rw [show f = i0 from (congrFun h 0).symm, show k = i3 from (congrFun h 1).symm]
    · rintro ⟨p, rfl⟩
      exact drop_column _ _ _ _
  rw [e, Finset.fold_map]
  rfl

/-- The values of one column's slots. -/
def column (v : FVec Ideal S4x5x4x4096 .f32) (f : Fin 4) (k : Fin 4096) : Multiset EReal :=
  Finset.univ.val.map fun p : Fin 5 × Fin 4 => v (ix4 f p.1 p.2 k)

theorem least_apply (v : FVec Ideal S4x5x4x4096 .f32) (f : Fin 4) (k : Fin 4096) :
    least v (ix4 f 0 0 k) = Least.low (column v f k) := by
  pointwise [least]
  rw [fold_column, top_word]
  rfl

theorem place_apply (f : Fin 4) (r : Fin 5) (i : Fin 4) (k : Fin 4096) :
    place (ix4 f r i k) = BitVec.ofNat 32 (4 * r + i) := by
  pointwise [place, Body.rnd, Body.opp, k2_pay14]
  revert r i
  decide +kernel

theorem firstPlace_apply (v : FVec Ideal S4x5x4x4096 .f32) (f : Fin 4) (k : Fin 4096) :
    firstPlace v (least v) (ix2 f k) = Finset.univ.fold IntOp.minsi 2147483647#32
      (fun p : Fin 5 × Fin 4 => if v (ix4 f p.1 p.2 k) ≤ Least.low (column v f k) then BitVec.ofNat 32 (4 * p.1 + p.2) else 20#32) := by
  pointwise [firstPlace]
  rw [fold_column]
  refine Finset.fold_congr fun p _ => ?_
  rw [place_apply, ← least_apply]
  rfl

theorem next_apply (v : FVec Ideal S4x5x4x4096 .f32) (f : Fin 4) (r : Fin 5) (i : Fin 4) (k : Fin 4096) :
    next v (ix4 f r i k) = if BitVec.ofNat 32 (4 * r + i) = firstPlace v (least v) (ix2 f k) then ⊤ else v (ix4 f r i k) := by
  pointwise [next, strike]
  rw [big_value, place_apply]
  exact select_eq _ _ _ _

theorem column_next (v : FVec Ideal S4x5x4x4096 .f32) (f : Fin 4) (k : Fin 4096) :
    column (next v) f k = ⊤ ::ₘ Least.rest (column v f k) := by
  refine Least.step (fun p : Fin 5 × Fin 4 => v (ix4 f p.1 p.2 k)) (fun p => next v (ix4 f p.1 p.2 k))
    (fun p => BitVec.ofNat 32 (4 * p.1 + p.2)) 20#32 (by decide +kernel) (by decide +kernel) 2147483647#32 (by decide) fun p => ?_
  rw [next_apply, firstPlace_apply]
  rfl

/-- The least values met one after the other are the least values of the first column. -/
theorem nth_next (v : FVec Ideal S4x5x4x4096 .f32) (f : Fin 4) (k : Fin 4096) (n : ℕ) :
    Least.nth (column (next v) f k) n = Least.nth (column v f k) (n + 1) := by
  rw [column_next, Least.nth_top, Least.nth_succ]

/-- One distance from its square's reading. -/
def root (c x : EReal) : EReal := Ideal.sqrt (max (x + c) (Ideal.ofBits .f32 0x2B8CBCCC#32))

theorem term_apply (q m : FVec Ideal S4x1x1x4096 .f32) (f : Fin 4) (k : Fin 4096) :
    term q m (ix4 f 0 0 k) = root (q (ix4 f 0 0 k)) (m (ix4 f 0 0 k)) := by
  pointwise [term, root]

theorem fifth_value : (Named.named κ "fifth" 0x3E4CCCCD#32 : Ideal .f32) = ((5⁻¹ : ℝ) : EReal) :=
  IdealRules.named_const.ideal_named_scalar _ _ _ _ rfl

theorem meanOf_apply (q : FVec Ideal S4x1x1x4096 .f32) (k : Fin 4096) :
    meanOf q (ix1 k) = Ideal.div (∑ f, q (ix4 f 0 0 k)) (Ideal.ofBits .f32 0x40800000#32) * ((5⁻¹ : ℝ) : EReal) := by
  pointwise [meanOf]
  rw [fifth_value]

/-- The image a column belongs to. -/
def img (k : Fin 4096) : Fin 16 := ⟨k / 256, by omega⟩

theorem image_word (f : Fin 4) (r : Fin 5) (i : Fin 4) (k : Fin 4096) : k2_pay5 (ix4 f r i k) = BitVec.ofNat 32 (img k : ℕ) := by
  pointwise [k2_pay5]
  revert k
  decide +kernel

theorem node_word (f : Fin 4) (r : Fin 5) (i : Fin 4) (k : Fin 4096) :
    k2_pay8 k2_pay5 4#32 k2_pay6 k2_pay7 0#32 (ix4 f r i k) = BitVec.ofNat 32 (img k / 4) := by
  pointwise [k2_pay8, k2_pay6, k2_pay7]
  rw [image_word]
  generalize img k = b
  revert b
  decide +kernel

/-- Whether a cross round's value of an image is in the first array. -/
def inFirst (r : Fin 5) (b : Fin 16) : Bool := b.val / 4 = 3 || (b.val / 4 + 6 - r.val) % 3 = 1

/-- Whether a slot of the last two rounds holds a value. -/
def inGroup (r : Fin 5) (i : Fin 4) (b : Fin 16) : Bool := r.val = 3 + b.val / 8 && i.val ≠ b.val % 4

theorem group_word (f : Fin 4) (r : Fin 5) (i : Fin 4) (k : Fin 4096) :
    Body.diagOk (ix4 f r i k) = BitVec.ofBool (inGroup r i (img k)) := by
  pointwise [Body.diagOk, k2_pay11, k2_pay10, Body.rnd, Body.opp]
  rw [image_word, node_word]
  generalize img k = b
  revert r i b
  decide +kernel

theorem slots_apply (x0 x1 : FVec Ideal S4x5x4x4096 .f32) (f : Fin 4) (r : Fin 5) (i : Fin 4) (k : Fin 4096) :
    slots x0 x1 (ix4 f r i k) = bif decide (r.val < 3) then (bif inFirst r (img k) then x0 (ix4 f r i k) else x1 (ix4 f r i k))
      else (bif inGroup r i (img k) then x0 (ix4 f r i k) else ⊤) := by
  pointwise [slots, k2_pay13, k2_pay9, k2_pay12, Body.rnd]
  rw [group_word, big_value]
  refine select_of ?_ (select_of ?_ rfl rfl) (select_of rfl rfl rfl)
  · revert r
    decide +kernel
  · simp only [node_word]
    generalize img k = b
    revert r b
    decide +kernel

theorem load_first (x : Vec Ideal S4x5x4x4096 .f32) : k2_pay2 (View.ld x Body.rD) = x := by
  funext i
  idx_vars i
  pointwise [k2_pay2]

theorem load_second (x : Vec Ideal S4x5x4x4096 .f32) : k2_pay3 (View.ld x Body.rD) = x := by
  funext i
  idx_vars i
  pointwise [k2_pay3]

theorem load_sums (x : Vec Ideal S4x1x4096 .f32) (f : Fin 4) (k : Fin 4096) :
    k2_pay4 (View.ld x Body.rQ) (ix4 f 0 0 k) = x (ix3 f 0 k) := by
  pointwise [k2_pay4]

theorem sumOf_apply (q m0 m1 m2 m3 m4 : FVec Ideal S4x1x1x4096 .f32) (f : Fin 4) (k : Fin 4096) :
    sumOf q m0 m1 m2 m3 m4 (ix4 f 0 0 k) = root (q (ix4 f 0 0 k)) (m0 (ix4 f 0 0 k)) + root (q (ix4 f 0 0 k)) (m1 (ix4 f 0 0 k))
      + root (q (ix4 f 0 0 k)) (m2 (ix4 f 0 0 k)) + root (q (ix4 f 0 0 k)) (m3 (ix4 f 0 0 k)) + root (q (ix4 f 0 0 k)) (m4 (ix4 f 0 0 k)) := by
  pointwise [sumOf]
  simp only [term_apply]

/-- The values after `n` have been taken. -/
def after (v : FVec Ideal S4x5x4x4096 .f32) : ℕ → FVec Ideal S4x5x4x4096 .f32
  | 0 => v
  | n + 1 => next (after v n)

theorem least_after (v : FVec Ideal S4x5x4x4096 .f32) (n : ℕ) (f : Fin 4) (k : Fin 4096) :
    least (after v n) (ix4 f 0 0 k) = Least.nth (column v f k) n := by
  have h : ∀ n i, Least.nth (column (after v n) f k) i = Least.nth (column v f k) (n + i) := by
    intro n
    induction n with
    | zero => intro i; rw [Nat.zero_add]; rfl
    | succ n ih => intro i; rw [after, nth_next, ih]; congr 1; omega
  rw [least_apply, ← Least.nth_zero, h n 0]
  rfl

/-- A column's score: the mean over the fields of the five least distances' mean. -/
theorem scores_apply (x0 x1 : Vec Ideal S4x5x4x4096 .f32) (x2 : Vec Ideal S4x1x4096 .f32) (k : Fin 4096) :
    Body.scores x0 x1 x2 (ix1 k) = Ideal.div (∑ f : Fin 4, ∑ j : Fin 5, root (x2 (ix3 f 0 k)) (Least.nth (column (slots x0 x1) f k) j))
      (Ideal.ofBits .f32 0x40800000#32) * ((5⁻¹ : ℝ) : EReal) := by
  rw [scores_eq, load_first, load_second]
  generalize slots x0 x1 = v
  have e : sumOf (k2_pay4 (View.ld x2 Body.rQ)) (least v) (least (next v)) (least (next (next v))) (least (next (next (next v))))
      (least (next (next (next (next v))))) = sumOf (k2_pay4 (View.ld x2 Body.rQ)) (least (after v 0)) (least (after v 1))
      (least (after v 2)) (least (after v 3)) (least (after v 4)) := rfl
  rw [e]
  generalize hs : sumOf (k2_pay4 (View.ld x2 Body.rQ)) (least (after v 0)) (least (after v 1))
      (least (after v 2)) (least (after v 3)) (least (after v 4)) = t
  rw [meanOf_apply]
  have ht : ∀ f, t (ix4 f 0 0 k) = ∑ j : Fin 5, root (x2 (ix3 f 0 k)) (Least.nth (column v f k) j) := by
    intro f
    rw [← hs, sumOf_apply, load_sums, Fin.sum_univ_five]
    simp only [least_after]
    rfl
  simp only [ht]

end Cert.KernelIdeal.Val
-- ==== Proof.Value.Maps.lean ====
module

public import proofs.«01_k».proof.Proof.Value.Select

@[expose] public section

set_option maxRecDepth 16384

noncomputable section

/-! The third kernel's two outputs, from the scores. -/

namespace Cert.KernelIdeal.Val

open Cert.KernelIdeal Cert.KernelIdeal.Gen
open Idealize.ShloMosaic

/-- One image's greatest score. -/
def top (off : ℕ) (h : S4096.Slices ![off] S256) (s : FVec Ideal S4096 .f32) : FVec Ideal S1x1 .f32 :=
  shapeCast S1x1 (multiReduction .maximumf [1] S1 (shapeCast S1x256 (extractStridedSlice S256 ![off] s h) shapeCasts_S256_S1x256) 0xFF800000#32 reduces_S1x256_S1 (.inl rfl) rfl) shapeCasts_S1_S1x1

theorem within (off : ℕ) (h : S4096.Slices ![off] S256) (p : Fin 256) : off + p.val < 4096 := by
  have h1 : off + 256 ≤ 4096 := h.2 0
  omega

theorem top_apply (off : ℕ) (h : S4096.Slices ![off] S256) (s : FVec Ideal S4096 .f32) :
    top off h s (ix2 0 0) = Finset.univ.fold max (Ideal.ofBits .f32 0xFF800000#32)
      fun p : Fin 256 => s (ix1 ⟨off + p, within off h p⟩) := by
  pointwise [top]

theorem slices (b : Fin 16) : S4096.Slices ![256 * b.val] S256 := by
  revert b
  decide

/-- The sixteen values side by side. -/
theorem row_apply (t : Fin 16 → Ideal .f32) (b : Fin 16) :
    shapeCast S1x16 (concatenate S16 0 [⟨S1, broadcast S1 (t 0)⟩, ⟨S1, broadcast S1 (t 1)⟩, ⟨S1, broadcast S1 (t 2)⟩, ⟨S1, broadcast S1 (t 3)⟩,
      ⟨S1, broadcast S1 (t 4)⟩, ⟨S1, broadcast S1 (t 5)⟩, ⟨S1, broadcast S1 (t 6)⟩, ⟨S1, broadcast S1 (t 7)⟩,
      ⟨S1, broadcast S1 (t 8)⟩, ⟨S1, broadcast S1 (t 9)⟩, ⟨S1, broadcast S1 (t 10)⟩, ⟨S1, broadcast S1 (t 11)⟩,
      ⟨S1, broadcast S1 (t 12)⟩, ⟨S1, broadcast S1 (t 13)⟩, ⟨S1, broadcast S1 (t 14)⟩, ⟨S1, broadcast S1 (t 15)⟩]
      concatenates_S1_S1_S1_S1_S1_S1_S1_S1_S1_S1_S1_S1_S1_S1_S1_S1_S16_d0) shapeCasts_S16_S1x16 (ix2 0 b) = t b := by
  pointwise []
  fin_cases b <;> rfl

theorem image_eq (x0 x1 : Vec Ideal S4x5x4x4096 .f32) (x2 : Vec Ideal S4x1x4096 .f32) (b : Fin 16) :
    Body.outI x0 x1 x2 (ix2 0 b) = extractAt ![0, 0] (top (256 * b.val) (slices b) (Body.scores x0 x1 x2)) inpos_S1x1_p0_0 := by
  unfold Body.outI
  generalize Body.scores x0 x1 x2 = s
  rw [View.canon_unit_zero (by funext a; fin_cases a <;> rfl)]
  exact row_apply (fun b => extractAt ![0, 0] (top (256 * b.val) (slices b) s) inpos_S1x1_p0_0) b

/-- The image scores. -/
theorem image_apply (x0 x1 : Vec Ideal S4x5x4x4096 .f32) (x2 : Vec Ideal S4x1x4096 .f32) (b : Fin 16) :
    Body.outI x0 x1 x2 (ix2 0 b) = Finset.univ.fold max (Ideal.ofBits .f32 0xFF800000#32)
      fun p : Fin 256 => Body.scores x0 x1 x2 (ix1 ⟨256 * b + p, by omega⟩) := by
  rw [image_eq, ← top_apply _ (slices b)]
  unfold extractAt
  congr 1
  funext a
  fin_cases a <;> rfl

/-- One image's score map. -/
def map (off : ℕ) (h : S4096.Slices ![off] S256) (s : FVec Ideal S4096 .f32) (u : FVec Ideal S224x256 .f32) (v : FVec Ideal S256x224 .f32) :
    FVec Ideal S1x224x224 .f32 :=
  shapeCast S1x224x224 (matmul dot_S224x256_S256x224_S224x224_1_0_0_1_n_n none
    (truncf .bf16 (mulf u (broadcastTo S224x256 (shapeCast S1x256 (extractStridedSlice S256 ![off] s h) shapeCasts_S256_S1x256) broadcasts_S1x256_S224x256)) bitsLt_bf16_f32)
    (truncf .bf16 v bitsLt_bf16_f32) (constant S224x224 .f32 0x00000000#32)) shapeCasts_S224x224_S1x224x224

theorem map_apply (off : ℕ) (hs : S4096.Slices ![off] S256) (s : FVec Ideal S4096 .f32) (u : FVec Ideal S224x256 .f32) (v : FVec Ideal S256x224 .f32)
    (h w : Fin 224) :
    map off hs s u v (ix3 0 h w) = ∑ p : Fin 256, u (ix2 h p) * s (ix1 ⟨off + p, within off hs p⟩) * v (ix2 p w) := by
  pointwise [map]

theorem load_left (x : Vec Ideal S224x256 .f32) : Body.leftTab x = x := by
  funext i
  idx_vars i
  pointwise [Body.leftTab, k2_pay24]

theorem load_right (x : Vec Ideal S256x224 .f32) : Body.rightTab x = x := by
  funext i
  idx_vars i
  pointwise [Body.rightTab, k2_pay25]

/-- The score maps as one function of the window's index. -/
def maps (s : FVec Ideal S4096 .f32) (u : FVec Ideal S224x256 .f32) (v : FVec Ideal S256x224 .f32) (i : S16x224x224.Idx) : Elt Ideal EltTy.f32 :=
  ∑ p : Fin 256, u (ix2 (i 1) p) * s (ix1 ⟨256 * (i 0).val + p, by have := (i 0).isLt; change _ < 16 at this; omega⟩) * v (ix2 p (i 2))

theorem piece (b : Fin 16) (hb : ∀ a, (![b.val, 0, 0] : Fin 3 → ℕ) a + S1x224x224.size a ≤ S16x224x224.size a)
    (s : FVec Ideal S4096 .f32) (u : FVec Ideal S224x256 .f32) (v : FVec Ideal S256x224 .f32) (x : S1x224x224.Idx) :
    map (256 * b.val) (slices b) s u v x = maps s u v ((Rect.unit (s := S16x224x224) ![b.val, 0, 0] S1x224x224.size hb).emb x) := by
  idx_vars x
  obtain rfl : x0 = 0 := Fin.fin_one_eq_zero x0
  rw [map_apply]
  unfold maps
  have e0 : (((Rect.unit (s := S16x224x224) ![b.val, 0, 0] S1x224x224.size hb).emb (ix3 0 x1 x2)) 0).val = b.val := by
    change b.val + 1 * 0 = b.val
    omega
  have e1 : ((Rect.unit (s := S16x224x224) ![b.val, 0, 0] S1x224x224.size hb).emb (ix3 0 x1 x2)) 1 = x1 :=
    Fin.ext (by change 0 + 1 * x1.val = x1.val; omega)
  have e2 : ((Rect.unit (s := S16x224x224) ![b.val, 0, 0] S1x224x224.size hb).emb (ix3 0 x1 x2)) 2 = x2 :=
    Fin.ext (by change 0 + 1 * x2.val = x2.val; omega)
  refine Finset.sum_congr rfl fun p _ => ?_
  rw [e1, e2]
  congr 4

theorem maps_apply (x0 x1 : Vec Ideal S4x5x4x4096 .f32) (x2 : Vec Ideal S4x1x4096 .f32) (x3 : Vec Ideal S224x256 .f32) (x4 : Vec Ideal S256x224 .f32)
    (i : S16x224x224.Idx) :
    Body.outP x0 x1 x2 x3 x4 i = maps (Body.scores x0 x1 x2) x3 x4 i := by
  unfold Body.outP
  rw [load_left, load_right]
  generalize Body.scores x0 x1 x2 = s
  refine View.canon_apply_of_pieces (maps s x3 x4) _ ?_ i (Body.coverP _ _ _ _ _ _ _ _ _ _ _ _ _ _ _ _ i)
  simp only [List.forall_mem_cons]
  exact ⟨piece 15 _ s x3 x4, piece 14 _ s x3 x4, piece 13 _ s x3 x4, piece 12 _ s x3 x4, piece 11 _ s x3 x4, piece 10 _ s x3 x4,
    piece 9 _ s x3 x4, piece 8 _ s x3 x4, piece 7 _ s x3 x4, piece 6 _ s x3 x4, piece 5 _ s x3 x4, piece 4 _ s x3 x4,
    piece 3 _ s x3 x4, piece 2 _ s x3 x4, piece 1 _ s x3 x4, piece 0 _ s x3 x4, fun p hp => absurd hp List.not_mem_nil⟩

end Cert.KernelIdeal.Val
-- ==== Proof.Value.Ends.lean ====
module

public import proofs.«01_k».proof.Proof.Value.Arrays
public import proofs.«01_k».proof.Proof.Value.Maps

@[expose] public section

set_option maxRecDepth 16384

noncomputable section

/-! The third kernel's outputs from its entry contents. -/

namespace Cert.KernelIdeal.Val

open Cert.KernelIdeal Cert.KernelIdeal.Gen Cert.Spec
open Idealize.ShloMosaic Idealize.ShloMosaic.TcCoe
open Idealize.ShloMosaic.Pipeline (Dat Cfg Window)

variable {c : Dev nD} {V V' : Valuation τ sig (Elt Ideal)}

theorem whole2 (w : Window sig grid2) (t : Fin grid2.N) (h : ∀ a, w.index t a = 0) (y : (w.xblock (grid2.coords t)).Idx) (a) :
    ((w.rect t).emb y a : ℕ) = y a := w.rect_emb_val_of_index_zero t a (h a) y

theorem blk2_0 (t : Fin grid2.N) : Body.blk2 V 0 t = V main_v31_0 := funext fun y => congrArg (V main_v31_0) (funext fun a => Fin.ext (whole2 win2_0 t (fun _ => rfl) y a))
theorem blk2_1 (t : Fin grid2.N) : Body.blk2 V 1 t = V main_v31_1 := funext fun y => congrArg (V main_v31_1) (funext fun a => Fin.ext (whole2 win2_1 t (fun _ => rfl) y a))
theorem blk2_2 (t : Fin grid2.N) : Body.blk2 V 2 t = V main_v30_2 := funext fun y => congrArg (V main_v30_2) (funext fun a => Fin.ext (whole2 win2_2 t (fun _ => rfl) y a))
theorem blk2_3 (t : Fin grid2.N) : Body.blk2 V 3 t = V main_v54 := funext fun y => congrArg (V main_v54) (funext fun a => Fin.ext (whole2 win2_3 t (fun _ => rfl) y a))
theorem blk2_4 (t : Fin grid2.N) : Body.blk2 V 4 t = V main_v58 := funext fun y => congrArg (V main_v58) (funext fun a => Fin.ext (whole2 win2_4 t (fun _ => rfl) y a))

theorem single : ∀ t t' : Fin grid2.N, t = t' := by decide

theorem array2_5 (s : Stage.Step (Body.facts2 (F := Ideal)) c V V') (t : Fin grid2.N) (i : S16x224x224.Idx) :
    V' main_v59_0 i = maps (Body.scores (V main_v31_0) (V main_v31_1) (V main_v30_2)) (V main_v54) (V main_v58) i := by
  have hs : (Body.dat2 V c).toR.ArrAt 5 cfg2.N (V' main_v59_0) := s.1 5
  have h := Stage.block_of_exact hs rfl (fun t t' hn => absurd (single t t') hn) t (flush2_5 _) i
  have e : ((win2_5.blk t).view.emb i : S16x224x224.Idx) = i := funext fun a => Fin.ext (whole2 win2_5 t (fun _ => rfl) i a)
  have h' := Body.after2_5 V c t
  rw [blk2_0, blk2_1, blk2_2, blk2_3, blk2_4] at h'
  rw [← maps_apply, ← h']
  refine (congrArg (V' main_v59_0) e).symm.trans (h.trans ?_)
  generalize (Body.dat2 V c).after 5 t = X
  rfl

theorem array2_6 (s : Stage.Step (Body.facts2 (F := Ideal)) c V V') (t : Fin grid2.N) (b : Fin 16) :
    V' main_v59_1 (ix2 0 b) = Finset.univ.fold max (Ideal.ofBits .f32 0xFF800000#32)
      fun p : Fin 256 => Body.scores (V main_v31_0) (V main_v31_1) (V main_v30_2) (ix1 ⟨256 * b + p, by omega⟩) := by
  have hs : (Body.dat2 V c).toR.ArrAt 6 cfg2.N (V' main_v59_1) := s.1 6
  have h := Stage.block_of_exact hs rfl (fun t t' hn => absurd (single t t') hn) t (flush2_6 _) (ix2 0 b)
  have e : ((win2_6.blk t).view.emb (ix2 0 b) : S1x16.Idx) = ix2 0 b := funext fun a => Fin.ext (whole2 win2_6 t (fun _ => rfl) _ a)
  have h' := Body.after2_6 V c t
  rw [blk2_0, blk2_1, blk2_2] at h'
  rw [← image_apply, ← h']
  refine (congrArg (V' main_v59_1) e).symm.trans (h.trans ?_)
  generalize (Body.dat2 V c).after 6 t = X
  rfl

/-! ## The slots of the selection -/

/-- The group another group meets in a round. -/
def mate (r : ℕ) (n : Fin 4) : Fin 4 := if n.val = 3 then ⟨r % 4, by omega⟩ else if n.val = r then 3 else ⟨(3 - r - n.val) % 4, by omega⟩

def node (b : Fin 16) : Fin 4 := ⟨b.val / 4, by omega⟩

/-- The grid point of a feature map, a round and a half. -/
def time (f : Fin 4) (r : Fin 5) (h : Fin 2) : ℕ := f.val * 10 + r.val * 2 + h.val

theorem meet_first : ∀ (f : Fin 4) (r : Fin 5) (b : Fin 16), r.val < 3 → inFirst r b = true →
    ∃ h : Fin 2, groupA (time f r h) = node b ∧ groupB (time f r h) = mate r (node b) := by decide +kernel
theorem meet_second : ∀ (f : Fin 4) (r : Fin 5) (b : Fin 16), r.val < 3 → inFirst r b = false →
    ∃ h : Fin 2, groupB (time f r h) = node b ∧ groupA (time f r h) = mate r (node b) := by decide +kernel
theorem meet_own : ∀ (f : Fin 4) (r : Fin 5) (i : Fin 4) (b : Fin 16), ¬ r.val < 3 → inGroup r i b = true →
    ∃ h : Fin 2, groupA (time f r h) = node b ∧ groupB (time f r h) = node b := by decide +kernel

section
variable {a : Fin 4 → Fin 16 → Fin 256 → Fin 1024 → EReal} {q : Fin 4 → Fin 16 → Fin 256 → EReal}
  (ha : ∀ f b p e, V main_v30_0 (ix4 f b p e) = a f b p e) (hq : ∀ f b p l, V main_v30_1 (ix4 f b p l) = q f b p)
include ha hq

theorem first_slot (s : Stage.Step (Body.facts1 (F := Ideal)) c V V') (f : Fin 4) (r : Fin 5) (h : Fin 2) (i : Fin 4) (b : Fin 16) (p : Fin 256) (g : Fin 4)
    (hA : groupA (time f r h) = node b) (hB : groupB (time f r h) = g) :
    V' main_v31_0 (ix4 f r i ⟨b * 256 + p, by omega⟩) = reduced (a f) (q f) b p (member g i) := by
  have ht : time f r h < 40 := by unfold time; omega
  have key := array1_2 ha hq s ⟨time f r h, ht⟩ i ⟨b.val % 4 * 256 + p, by omega⟩
  have e1 : (⟨time f r h / 10, by omega⟩ : Fin 4) = f := Fin.ext (by dsimp only [time]; omega)
  have e2 : (⟨time f r h / 2 % 5, by omega⟩ : Fin 5) = r := Fin.ext (by dsimp only [time]; omega)
  have e3 : member (node b) ⟨(b.val % 4 * 256 + p.val) / 256, by omega⟩ = b := Fin.ext (by dsimp only [member, node]; omega)
  have e4 : (⟨(b.val % 4 * 256 + p.val) % 256, by omega⟩ : Fin 256) = p := Fin.ext (by dsimp only; omega)
  have e5 : (⟨1024 * (node b).val + (b.val % 4 * 256 + p.val), by dsimp only [node]; omega⟩ : Fin 4096) = ⟨b * 256 + p, by omega⟩ := Fin.ext (by dsimp only [node]; omega)
  simp only [e1, e2, hA, hB, e3, e4, e5] at key
  exact key

theorem second_slot (s : Stage.Step (Body.facts1 (F := Ideal)) c V V') (f : Fin 4) (r : Fin 5) (hr : r.val < 3) (h : Fin 2) (i : Fin 4) (b : Fin 16) (p : Fin 256) (g : Fin 4)
    (hA : groupB (time f r h) = node b) (hB : groupA (time f r h) = g) :
    V' main_v31_1 (ix4 f r i ⟨b * 256 + p, by omega⟩) = reduced (a f) (q f) b p (member g i) := by
  have ht : time f r h < 40 := by unfold time; omega
  have key := array1_3 ha hq s ⟨time f r h, ht⟩ (by dsimp only [time]; omega) i ⟨b.val % 4 * 256 + p, by omega⟩
  have e1 : (⟨time f r h / 10, by omega⟩ : Fin 4) = f := Fin.ext (by dsimp only [time]; omega)
  have e2 : (⟨time f r h / 2 % 5, by omega⟩ : Fin 5) = r := Fin.ext (by dsimp only [time]; omega)
  have e3 : member (node b) ⟨(b.val % 4 * 256 + p.val) / 256, by omega⟩ = b := Fin.ext (by dsimp only [member, node]; omega)
  have e4 : (⟨(b.val % 4 * 256 + p.val) % 256, by omega⟩ : Fin 256) = p := Fin.ext (by dsimp only; omega)
  have e5 : (⟨1024 * (node b).val + (b.val % 4 * 256 + p.val), by dsimp only [node]; omega⟩ : Fin 4096) = ⟨b * 256 + p, by omega⟩ := Fin.ext (by dsimp only [node]; omega)
  simp only [e1, e2, hA, hB, e3, e4, e5] at key
  exact key

/-- What the selection reads in a slot. -/
theorem slot_value (s : Stage.Step (Body.facts1 (F := Ideal)) c V V') (f : Fin 4) (r : Fin 5) (i : Fin 4) (b : Fin 16) (p : Fin 256) :
    slots (V' main_v31_0) (V' main_v31_1) (ix4 f r i ⟨b * 256 + p, by omega⟩)
      = bif decide (r.val < 3) then reduced (a f) (q f) b p (member (mate r (node b)) i)
        else bif inGroup r i b then reduced (a f) (q f) b p (member (node b) i) else ⊤ := by
  have hi : img ⟨b * 256 + p, by omega⟩ = b := Fin.ext (by dsimp only [img]; omega)
  rw [slots_apply, hi]
  by_cases hr : r.val < 3
  · simp only [decide_eq_true hr, cond_true]
    cases hb : inFirst r b
    · obtain ⟨h, hA, hB⟩ := meet_second f r b hr hb
      exact second_slot ha hq s f r hr h i b p _ hA hB
    · obtain ⟨h, hA, hB⟩ := meet_first f r b hr hb
      exact first_slot ha hq s f r h i b p _ hA hB
  · simp only [decide_eq_false hr, cond_false]
    cases hb : inGroup r i b
    · rfl
    · obtain ⟨h, hA, hB⟩ := meet_own f r i b hr hb
      exact first_slot ha hq s f r h i b p _ hA hB

end

end Cert.KernelIdeal.Val
-- ==== Proof.Value.Slots.lean ====
module

public import proofs.«01_k».proof.Proof.Value.Ends

@[expose] public section

set_option maxRecDepth 16384

noncomputable section

namespace Cert.KernelIdeal.Val

open Cert.KernelIdeal Cert.KernelIdeal.Gen Cert.Spec
open Idealize.ShloMosaic Idealize.ShloMosaic.TcCoe
open Idealize.ShloMosaic.Pipeline (Dat Cfg Window)

/-! ## Twenty slots for sixteen images -/

/-- A candidate of a position: its least reduced distance to another image; none for its own. -/
def cand (a : Fin 16 → Fin 256 → Fin 1024 → EReal) (q : Fin 16 → Fin 256 → EReal) (b : Fin 16) (p : Fin 256) (b' : Fin 16) : EReal :=
  if b = b' then ⊤ else reduced a q b p b'

/-- The slot of each image, and of the four that hold none. -/
def slotOf (b : Fin 16) : Fin 16 ⊕ Fin 4 → Fin 5 × Fin 4
  | .inl b' => (if b'.val / 4 = b.val / 4 then ⟨3 + b.val / 8, by omega⟩
      else if b.val / 4 = 3 then ⟨b'.val / 4, by omega⟩ else if b'.val / 4 = 3 then ⟨b.val / 4, by omega⟩ else ⟨(3 - b.val / 4 - b'.val / 4) % 5, by omega⟩, ⟨b'.val % 4, by omega⟩)
  | .inr j => (⟨4 - b.val / 8, by omega⟩, j)

/-- The image a slot is compared with, if there is one. -/
def pick (r : Fin 5) (i : Fin 4) (b : Fin 16) : Option (Fin 16) :=
  bif decide (r.val < 3) then some (member (mate r (node b)) i) else bif inGroup r i b then some (member (node b) i) else none

theorem slotOf_injective (b : Fin 16) : Function.Injective (slotOf b) := by
  revert b; unfold Function.Injective; decide +kernel

theorem slotOf_bijective (b : Fin 16) : Function.Bijective (slotOf b) :=
  (Fintype.bijective_iff_injective_and_card _).mpr ⟨slotOf_injective b, by decide⟩

theorem pick_inl (b b' : Fin 16) : pick (slotOf b (.inl b')).1 (slotOf b (.inl b')).2 b = if b = b' then none else some b' := by
  revert b b'; decide +kernel

theorem pick_inr (b : Fin 16) (j : Fin 4) : pick (slotOf b (.inr j)).1 (slotOf b (.inr j)).2 b = none := by
  revert b j; decide +kernel

/-- A column of slots as a bag: the sixteen candidates and four that hold none. -/
theorem bag_slots (b : Fin 16) (g : Fin 16 → EReal) (v : Fin 5 × Fin 4 → EReal) (hv : ∀ x, v x = (pick x.1 x.2 b).elim ⊤ g) :
    (Finset.univ.val.map v : Multiset EReal)
      = Finset.univ.val.map (fun b' : Fin 16 => if b = b' then ⊤ else g b') + Multiset.replicate 4 ⊤ := by
  have e : (Finset.univ.val : Multiset (Fin 5 × Fin 4)) = (Finset.univ.val : Multiset (Fin 16 ⊕ Fin 4)).map (slotOf b) :=
    (Multiset.map_univ_val_equiv (Equiv.ofBijective _ (slotOf_bijective b))).symm
  have u : (Finset.univ.val : Multiset (Fin 16 ⊕ Fin 4)) = Finset.univ.val.map Sum.inl + Finset.univ.val.map Sum.inr := rfl
  rw [e, Multiset.map_map, u, Multiset.map_add, Multiset.map_map, Multiset.map_map]
  congr 1
  · refine Multiset.map_congr rfl fun b' _ => ?_
    change v (slotOf b (.inl b')) = _
    rw [hv, pick_inl]
    split <;> rfl
  · refine (Multiset.map_congr rfl fun j _ => (?_ : _ = (⊤ : EReal))).trans (Multiset.map_const' _ _)
    change v (slotOf b (.inr j)) = _
    rw [hv, pick_inr]
    rfl

variable {c : Dev nD} {V V' : Valuation τ sig (Elt Ideal)}

/-- The `j`-th least value of a column of slots is the `j`-th least candidate. -/
theorem nth_slots {a : Fin 4 → Fin 16 → Fin 256 → Fin 1024 → EReal} {q : Fin 4 → Fin 16 → Fin 256 → EReal}
    (ha : ∀ f b p e, V main_v30_0 (ix4 f b p e) = a f b p e) (hq : ∀ f b p l, V main_v30_1 (ix4 f b p l) = q f b p)
    (s : Stage.Step (Body.facts1 (F := Ideal)) c V V') (f : Fin 4) (b : Fin 16) (p : Fin 256) (j : ℕ) :
    Least.nth (column (slots (V' main_v31_0) (V' main_v31_1)) f ⟨b.val * 256 + p.val, by omega⟩) j
      = Least.nth (Finset.univ.val.map fun b' : Fin 16 => cand (a f) (q f) b p b') j := by
  have e : column (slots (V' main_v31_0) (V' main_v31_1)) f ⟨b.val * 256 + p.val, by omega⟩
      = Finset.univ.val.map (fun b' : Fin 16 => cand (a f) (q f) b p b') + Multiset.replicate 4 ⊤ := by
    refine bag_slots b (fun b' => reduced (a f) (q f) b p b') _ fun x => ?_
    rw [slot_value ha hq s, pick]
    cases decide (x.1.val < 3) <;> [cases inGroup x.1 x.2 b; skip] <;> rfl
  rw [e, Least.nth_tops]

end Cert.KernelIdeal.Val
-- ==== Proof.Value.Readings.lean ====
module

public import proofs.«01_k».proof.Proof.Value.Reference
public import proofs.«01_k».proof.Proof.Value.Least
public import Idealize.ShloMosaic.Lib.SortFacts

@[expose] public section

set_option maxRecDepth 16384

noncomputable section

/-! The reference's stages read at an index. -/

namespace Cert.ReferenceIdeal.Val

open Cert.ReferenceIdeal Cert.ReferenceIdeal.Gen
open Idealize.ShloMosaic Idealize.ShloMosaic.TcCoe

theorem pre_apply (a0 : FVec Ideal S16x3x224x224 .f32) (a1 : FVec Ideal S588x1024 .f32) (a2 : FVec Ideal S1024 .f32)
    (a3 : FVec Ideal S2x1024x1024 .f32) (a4 : FVec Ideal S2x1024 .f32) (l : Fin 2) (n : Fin 4096) (e : Fin 1024) :
    pre a0 a1 a2 a3 a4 (ix3 l n e) = (∑ d : Fin 1024, a3 (ix3 l d e) * ((∑ k : Fin 588,
      a0 (ix4 ⟨n.val / 256, by omega⟩ ⟨k.val / 196, by omega⟩ ⟨n.val / 16 % 16 * 14 + k.val / 14 % 14, by omega⟩ ⟨n.val % 16 * 14 + k.val % 14, by omega⟩)
        * a1 (ix2 k d)) + a2 (ix1 d))) + a4 (ix2 l e) := by
  pointwise [pre]

theorem act_apply (x : FVec Ideal S2x4096x1024 .f32) (i : S2x4096x1024.Idx) :
    act x i = x i * (Ideal.ofBits .f32 0x3F000000#32 * (Ideal.ofBits .f32 0x3F800000#32 + Ideal.tanh (Ideal.ofBits .f32 0x3F4C422A#32 * (x i + Ideal.ofBits .f32 0x3D372713#32 * (x i * x i * x i))))) := rfl

theorem fields_low (x : FVec Ideal S2x4096x1024 .f32) (l : Fin 4) (h : l.val < 2) (n : Fin 4096) (e : Fin 1024) :
    fields x (ix3 l n e) = x (ix3 ⟨l.val, h⟩ n e) := by
  unfold fields
  generalize pooled x = y
  pointwise
  simp [h]

theorem fields_high (x : FVec Ideal S2x4096x1024 .f32) (l : Fin 4) (h : ¬ l.val < 2) (n : Fin 4096) (e : Fin 1024) :
    fields x (ix3 l n e) = pooled x (ix5 ⟨l.val - 2, by omega⟩ ⟨n.val / 256, by omega⟩ ⟨n.val / 16 % 16, by omega⟩ ⟨n.val % 16, by omega⟩ e) := by
  unfold fields
  generalize pooled x = y
  pointwise
  simp [h]

theorem dists_apply (x : FVec Ideal S4x4096x1024 .f32) (f : Fin 4) (n n' : Fin 4096) :
    dists x (ix3 f n n') = (∑ e : Fin 1024, x (ix3 f n e) * x (ix3 f n e)) + (∑ e : Fin 1024, x (ix3 f n' e) * x (ix3 f n' e))
      - Ideal.ofBits .f32 0x40000000#32 * ∑ e : Fin 1024, x (ix3 f n e) * x (ix3 f n' e) := by
  pointwise [dists, sums]

theorem split_apply (d : FVec Ideal S4x4096x4096 .f32) (f : Fin 4) (b : Fin 16) (p : Fin 256) (b' : Fin 16) (q : Fin 256) :
    split d (ix5 f b p b' q) = if b = b' then Ideal.ofBits .f32 0x7F800000#32 else d (ix3 f ⟨b.val * 256 + p.val, by omega⟩ ⟨b'.val * 256 + q.val, by omega⟩) := by
  pointwise [split]
  have h : IntOp.cmpi .eq (BitVec.ofNat 32 b.val) (BitVec.ofNat 32 b'.val) = BitVec.ofBool (decide (b = b')) := by
    revert b b'; decide +kernel
  rw [h]
  by_cases e : b = b'
  · simp only [e, decide_true, if_true]; rfl
  · simp only [e, decide_false, if_false]; rfl

theorem mins_apply (d : FVec Ideal S4x16x256x16x256 .f32) (f : Fin 4) (b : Fin 16) (p : Fin 256) (b' : Fin 16) :
    mins d (ix4 f b p b') = Finset.univ.fold min (Ideal.ofBits .f32 0x7F800000#32) fun q : Fin 256 => d (ix5 f b p b' q) := by
  pointwise [mins]

theorem roots_apply (d : FVec Ideal S4x16x256x16 .f32) (i : S4x16x256x16.Idx) :
    roots d i = Ideal.sqrt (max (d i) (Ideal.ofBits .f32 0x2B8CBCCC#32)) := rfl

theorem means_apply (s : FVec Ideal S4x16x256x16 .f32) (b : Fin 16) (p : Fin 256) :
    means s (ix2 b p) = Ideal.div (∑ r : Fin 2, Ideal.div (∑ l : Fin 2, Ideal.div (∑ j : Fin 5, s (ix4 ⟨r.val * 2 + l.val, by omega⟩ b p ⟨j.val, by omega⟩))
      (Ideal.ofBits .f32 0x40A00000#32)) (Ideal.ofBits .f32 0x40000000#32)) (Ideal.ofBits .f32 0x40000000#32) := by
  pointwise [means]

theorem tab_apply (h : Fin 224) (j : Fin 16) : tab (ix2 h j) = Ideal.div (tri (ix2 h j)) (∑ k : Fin 16, tri (ix2 h k)) := by
  unfold tab
  generalize tri = t
  pointwise

theorem maps_apply (s : FVec Ideal S16x256 .f32) (b : Fin 16) (h w : Fin 224) :
    maps s (ix3 b h w) = ∑ x : Fin 16, (∑ y : Fin 16, tab (ix2 h y) * s (ix2 b ⟨y.val * 16 + x.val, by omega⟩)) * tab (ix2 w x) := by
  unfold maps
  generalize tab = t
  pointwise

theorem tops_apply (s : FVec Ideal S16x256 .f32) (b : Fin 16) :
    tops s (ix1 b) = Finset.univ.fold max (Ideal.ofBits .f32 0xFF800000#32) fun p : Fin 256 => s (ix2 b p) := by
  pointwise [tops]

/-! ## The sorted distances -/

theorem comparator_eq (x y : EReal) : comparator_f32_d3 (F := Ideal) x y = BitVec.ofBool (decide (x < y)) := by
  have hs : ∀ z : Ideal .f32, Scalar.select (FloatOps.cmpf .une z z : BitVec 1) (FloatOps.ofBits .f32 0x7FC00000#32 : Ideal .f32)
      (Scalar.select (FloatOps.cmpf .oeq z (FloatOps.ofBits .f32 0x00000000#32 : Ideal .f32)) (FloatOps.ofBits .f32 0x00000000#32) z) = z := by
    intro z
    have h1 : (FloatOps.cmpf .une (z : Ideal .f32) z : BitVec 1) = 0#1 := by
      show BitVec.ofBool (decide (z ≠ z)) = 0#1
      simp
    rw [h1]
    show Scalar.select (BitVec.ofBool (decide (z = _))) _ z = z
    by_cases h : z = (FloatOps.ofBits .f32 0x00000000#32 : Ideal .f32)
    · rw [decide_eq_true h]; exact h.symm
    · rw [decide_eq_false h]; rfl
  have key : ∀ u v : Ideal .f32, FloatOps.cmpfTotal .lt
      (Scalar.select (FloatOps.cmpf .une u u : BitVec 1) (FloatOps.ofBits .f32 0x7FC00000#32 : Ideal .f32)
        (Scalar.select (FloatOps.cmpf .oeq u (FloatOps.ofBits .f32 0x00000000#32 : Ideal .f32)) (FloatOps.ofBits .f32 0x00000000#32) u))
      (Scalar.select (FloatOps.cmpf .une v v : BitVec 1) (FloatOps.ofBits .f32 0x7FC00000#32 : Ideal .f32)
        (Scalar.select (FloatOps.cmpf .oeq v (FloatOps.ofBits .f32 0x00000000#32 : Ideal .f32)) (FloatOps.ofBits .f32 0x00000000#32) v))
        = BitVec.ofBool (decide (LT.lt (α := EReal) u v)) := fun u v => by
    rw [hs, hs]
    rfl
  exact key x y

/-- The value a sort puts at a place is the least there. -/
theorem nth_sorted (n : ℕ) (g : Fin n → EReal) (B : Fin n → Fin n → Bool) (hb : ∀ k k', B k k' = decide (g k < g k')) (j : Fin n) :
    g (sortedFrom B j) = Least.nth (Finset.univ.val.map g) j.val := by
  have hn : ∀ i k : Fin n, i < k → B (sortedFrom B k) (sortedFrom B i) = false := fun i k h =>
    sortedFrom_noInversion B B (fun a b' h => by rw [hb] at h ⊢; simp only [decide_eq_true_eq, decide_eq_false_iff_not, not_lt] at h ⊢; exact h.le)
      (fun a b' h => h) (fun a b' c h1 h2 => by rw [hb] at h1 h2 ⊢; simp only [decide_eq_false_iff_not, not_lt] at h1 h2 ⊢; exact h2.trans h1) i k h
  have hl : (List.ofFn fun k => g (sortedFrom B k)).Pairwise (· ≤ ·) := by
    rw [List.pairwise_ofFn]
    intro i k h
    have := hn i k h
    rw [hb] at this
    simpa using this
  have hp : Function.Bijective (sortedFrom B) := ⟨sortedFrom_injective B, sortedFrom_surjective B⟩
  have hm : (Finset.univ.val.map g : Multiset EReal) = ↑(List.ofFn fun k => g (sortedFrom B k)) := by
    have : (Finset.univ.val : Multiset (Fin n)) = Finset.univ.val.map (sortedFrom B) :=
      (Multiset.map_univ_val_equiv (Equiv.ofBijective _ hp)).symm
    rw [this, Multiset.map_map, List.ofFn_eq_map]
    rfl
  rw [hm, Least.nth_list _ hl _ (by simp)]
  simp

theorem along_last (f : Fin 4) (b : Fin 16) (p : Fin 256) (j k : Fin 16) :
    ((ix4 f b p j : S4x16x256x16.Idx).along (3 : Fin 4) k : S4x16x256x16.Idx) = ix4 f b p k := by
  funext a
  match a with
  | 0 => rfl
  | 1 => rfl
  | 2 => rfl
  | 3 => rfl

/-- The `j`-th sorted distance of a position is the `j`-th least. -/
theorem sort_apply (x : FVec Ideal S4x16x256x16 .f32) (f : Fin 4) (b : Fin 16) (p : Fin 256) (j : Fin 16) :
    Host.sort S4x16x256x16 3 (comparator_f32_d3 (F := Ideal)) x (ix4 f b p j)
      = Least.nth (Finset.univ.val.map fun b' : Fin 16 => (x (ix4 f b p b') : EReal)) j.val :=
  (congrArg x (along_last f b p j _)).trans (nth_sorted 16 (fun b' => x (ix4 f b p b'))
    (fun k k' => comparator_f32_d3 (F := Ideal) (x ((ix4 f b p j : S4x16x256x16.Idx).along (3 : Fin 4) k)) (x ((ix4 f b p j : S4x16x256x16.Idx).along (3 : Fin 4) k')) == 1#1)
    (fun k k' => (congrArg₂ (fun u v : EReal => comparator_f32_d3 (F := Ideal) u v == 1#1) (congrArg x (along_last f b p j k)) (congrArg x (along_last f b p j k'))).trans
      (by simp only [comparator_eq]; cases decide (x (ix4 f b p k) < x (ix4 f b p k')) <;> rfl)) j)

end Cert.ReferenceIdeal.Val
-- ==== Proof.Value.Host.lean ====
module

public import proofs.«01_k».proof.Proof.Ideal.Run
public import proofs.«01_k».proof.Proof.Value.Select
public import Idealize.ShloMosaic.Lib.Pointwise

@[expose] public section

set_option maxRecDepth 16384

noncomputable section

/-! What the host code around the three kernels computes: the patches, the neighbourhood table and the two
    interpolation tables. -/

namespace Cert.KernelIdeal.Val

open Cert.KernelIdeal Cert.KernelIdeal.Gen
open Idealize.ShloMosaic Idealize.ShloMosaic.TcCoe

/-- The patches. -/
def patches (x : FVec Ideal S16x3x224x224 .f32) : FVec Ideal S16x256x588 .bf16 :=
  shapeCast _ (transpose S16x16x16x3x14x14 [0, 2, 4, 1, 3, 5] (shapeCast _ (truncf .bf16 x bitsLt_bf16_f32 : FVec Ideal S16x3x224x224 .bf16) shapeCasts_S16x3x224x224_S16x3x16x14x16x14) transposes_S16x3x16x14x16x14_S16x16x16x3x14x14_0_2_4_1_3_5) shapeCasts_S16x16x16x3x14x14_S16x256x588

def splatI (w : BitVec 32) : IVec S16x16 32 := broadcastInDim S16x16 ![] bcast_S_S16x16 (constantI S_ 32 w)
def firstI : IVec S16x16 32 := maxsi (splatI 0#32) (subi (iotaInDim S16x16 32 0) (splatI 1#32))
def lastI : IVec S16x16 32 := minsi (splatI 15#32) (addi (iotaInDim S16x16 32 0) (splatI 1#32))
def nearI : IVec S16x16 1 := andi (cmpi .sge (iotaInDim S16x16 32 1) firstI) (cmpi .sle (iotaInDim S16x16 32 1) lastI)
def countI : IVec S16x16 32 := addi (subi lastI firstI) (splatI 1#32)

/-- The weights of one axis of the neighbourhood. -/
def axisTab : FVec Ideal S16x16 .f32 :=
  select nearI (Host.divf (broadcastInDim S16x16 ![] bcast_S_S16x16 (constant S_ .f32 0x3F800000#32)) (sitofp .f32 countI))
    (broadcastInDim S16x16 ![] bcast_S_S16x16 (id (constant S_ .f32 0x00000000#32)))

/-- The neighbourhood table. -/
def poolTab : FVec Ideal S256x256 .f32 :=
  shapeCast _ (mulf (broadcastInDim S16x16x16x16 ![0, 1, 2, 3] bcast_S16x1x16x1_S16x16x16x16_0_1_2_3 (broadcastInDim S16x1x16x1 ![0, 2] bcast_S16x16_S16x1x16x1_0_2 axisTab))
    (broadcastInDim S16x16x16x16 ![0, 1, 2, 3] bcast_S1x16x1x16_S16x16x16x16_0_1_2_3 (broadcastInDim S1x16x1x16 ![1, 3] bcast_S16x16_S1x16x1x16_1_3 axisTab))) shapeCasts_S16x16x16x16_S256x256

/-- The interpolation weights before they are normalised. -/
def tri : FVec Ideal S224x16 .f32 :=
  maximumf (broadcastInDim S224x16 ![] bcast_S_S224x16 (constant S_ .f32 0x00000000#32)) (subf (broadcastInDim S224x16 ![] bcast_S_S224x16 (constant S_ .f32 0x3F800000#32)) (Host.absf (subf (subf (Host.divf (addf (sitofp .f32 (iotaInDim S224x16 32 0)) (broadcastInDim S224x16 ![] bcast_S_S224x16 (constant S_ .f32 0x3F000000#32))) (broadcastInDim S224x16 ![] bcast_S_S224x16 (constant S_ .f32 0x41600000#32))) (broadcastInDim S224x16 ![] bcast_S_S224x16 (constant S_ .f32 0x3F000000#32))) (sitofp .f32 (iotaInDim S224x16 32 1)))))

/-- The interpolation weights. -/
def tab : FVec Ideal S224x16 .f32 :=
  Host.divf tri (broadcastInDim S224x16 ![0, 1] bcast_S224x1_S224x16_0_1 (broadcastInDim S224x1 ![0] bcast_S224_S224x1_0 (Host.reduceAdd tri (constant S_ .f32 0x00000000#32) reducesTo_S224x16_S224_d1 h_S_)))

def tabA : FVec Ideal S224x256 .f32 :=
  shapeCast _ (broadcastInDim S224x16x16 ![0, 1, 2] bcast_S224x16x1_S224x16x16_0_1_2 (broadcastInDim S224x16x1 ![0, 1] bcast_S224x16_S224x16x1_0_1 tab)) shapeCasts_S224x16x16_S224x256

def tabB : FVec Ideal S256x224 .f32 :=
  transpose S256x224 [1, 0] (shapeCast _ (broadcastInDim S224x16x16 ![0, 1, 2] bcast_S224x1x16_S224x16x16_0_1_2 (broadcastInDim S224x1x16 ![0, 2] bcast_S224x16_S224x1x16_0_2 tab)) shapeCasts_S224x16x16_S224x256 : FVec Ideal S224x256 .f32) transposes_S224x256_S256x224_1_0

/-! ## The buffers -/

variable (V : Valuation τ sig (Elt Ideal))

theorem read_v3 : StableHlo.after hostOps0 V main_v3 = patches (V main_arg0) := by
  unfold patches; simp only [hostOps0]; after_results_simp <;> rfl

theorem read_v16 : StableHlo.after hostOps0 V main_v16 = nearI := by
  simp only [hostOps0]; after_results_simp <;> rfl

theorem read_v22 : StableHlo.after hostOps0 V main_v22
    = (Host.divf (broadcastInDim S16x16 ![] bcast_S_S16x16 (constant S_ .f32 0x3F800000#32)) (sitofp .f32 countI) : FVec Ideal S16x16 .f32) := by
  simp only [hostOps0]; after_results_simp <;> rfl

theorem read_cst_4 : StableHlo.after hostOps0 V main_cst_4 = (constant S_ .f32 0x00000000#32 : FVec Ideal S_ .f32) := by
  simp only [hostOps0]; after_results_simp <;> rfl

theorem read_v23 : StableHlo.after hostOps0_1 (StableHlo.after hostOps0 V) main_v23 = axisTab := by
  have h1 := read_v16 V
  have h2 := read_v22 V
  have h3 := read_cst_4 V
  generalize StableHlo.after hostOps0 V = U at *
  unfold axisTab
  rw [← h1, ← h2, ← h3]
  simp only [hostOps0_1, StableHlo.TRef.ternary, StableHlo.TRef.unary, StableHlo.TRef.toBuf, StableHlo.TRef.ofBuf, cast_eq]; after_results_simp <;> rfl

theorem read_v29 : StableHlo.after hostOps0_2 (StableHlo.after hostOps0_1 (StableHlo.after hostOps0 V)) main_v29 = poolTab := by
  have h1 := read_v23 V
  generalize StableHlo.after hostOps0_1 (StableHlo.after hostOps0 V) = U at *
  unfold poolTab
  rw [← h1]
  simp only [hostOps0_2]; after_results_simp <;> rfl

theorem read_v54 : StableHlo.after hostOps2 V main_v54 = tabA := by
  simp only [hostOps2]; after_results_simp <;> rfl

theorem read_v58 : StableHlo.after hostOps2 V main_v58 = tabB := by
  simp only [hostOps2]; after_results_simp <;> rfl

theorem read_v60 (b : Fin 16) : StableHlo.after hostOps3 V main_v60 (ix1 b) = V main_v59_1 (ix2 0 b) := by
  have e : StableHlo.after hostOps3 V main_v60 = (shapeCast S16 (V main_v59_1 : FVec Ideal S1x16 .f32) shapeCasts_S1x16_S16 : FVec Ideal S16 .f32) := by
    simp only [hostOps3]; after_results_simp <;> rfl
  rw [e]
  generalize (V main_v59_1 : FVec Ideal S1x16 .f32) = x
  pointwise

/-! ## Their readings -/

theorem patches_apply (x : FVec Ideal S16x3x224x224 .f32) (b : Fin 16) (p : Fin 256) (k : Fin 588) :
    patches x (ix3 b p k) = x (ix4 b ⟨k.val / 196, by omega⟩ ⟨p.val / 16 * 14 + k.val / 14 % 14, by omega⟩ ⟨p.val % 16 * 14 + k.val % 14, by omega⟩) := by
  pointwise [patches]

/-- Adjacent or equal. -/
def near (i j : Fin 16) : Bool := i.val ≤ j.val + 1 && j.val ≤ i.val + 1

/-- How many positions of an axis are adjacent or equal to one. -/
def count (i : Fin 16) : ℕ := if i.val = 0 ∨ i.val = 15 then 2 else 3

theorem nearI_apply (i j : Fin 16) : nearI (ix2 i j) = BitVec.ofBool (near i j) := by
  pointwise [nearI, firstI, lastI, splatI]
  revert i j; decide +kernel

theorem countI_apply (i j : Fin 16) : countI (ix2 i j) = BitVec.ofNat 32 (count i) := by
  pointwise [countI, firstI, lastI, splatI]
  revert i j; decide +kernel

theorem count_value (i : Fin 16) : (FloatOps.sitofp .f32 (BitVec.ofNat 32 (count i)) : Ideal .f32) = ((count i : ℝ) : EReal) := by
  have : ((BitVec.ofNat 32 (count i)).toInt) = (count i : ℤ) := by revert i; decide
  show ((((BitVec.ofNat 32 (count i)).toInt : ℝ)) : EReal) = _
  rw [this]; simp

theorem axisTab_apply (i j : Fin 16) : axisTab (ix2 i j)
    = if near i j then Ideal.div 1 ((count i : ℝ) : EReal) else 0 := by
  have h1 := nearI_apply i j
  have h2 := countI_apply i j
  have h3 := count_value i
  rw [← h2] at h3
  rw [← h3]
  generalize hn : nearI = n at *
  generalize hc : countI = k at *
  pointwise [axisTab]
  rw [hn, hc, h1]
  cases near i j
  · exact Ideal.ofBits_zero_f32
  · rfl

theorem poolTab_apply (p q : Fin 256) : poolTab (ix2 p q)
    = axisTab (ix2 ⟨p.val / 16, by omega⟩ ⟨q.val / 16, by omega⟩) * axisTab (ix2 ⟨p.val % 16, by omega⟩ ⟨q.val % 16, by omega⟩) := by
  unfold poolTab
  generalize axisTab = t
  pointwise

theorem tabA_apply (h : Fin 224) (p : Fin 256) : tabA (ix2 h p) = tab (ix2 h ⟨p.val / 16, by omega⟩) := by
  unfold tabA
  generalize tab = t
  pointwise

theorem tabB_apply (p : Fin 256) (w : Fin 224) : tabB (ix2 p w) = tab (ix2 w ⟨p.val % 16, by omega⟩) := by
  unfold tabB
  generalize tab = t
  pointwise

end Cert.KernelIdeal.Val
-- ==== Proof.Value.Window.lean ====
module

public import proofs.«01_k».proof.Proof.Value.Readings
public import proofs.«01_k».proof.Proof.Value.Host
public import proofs.«01_k».proof.Proof.Value.Features

@[expose] public section

set_option maxRecDepth 16384

noncomputable section

/-! The sum over a 3 x 3 window as a sum over the positions adjacent to one. -/

namespace Cert.Spec

open Idealize.ShloMosaic Idealize.ShloMosaic.TcCoe
open Cert.KernelIdeal.Val (near count)

/-- Adjacent or equal on both axes of the 16 x 16 grid. -/
def nearby (i j : Fin 16) (q : Fin 256) : Bool := near i ⟨q.val / 16, by omega⟩ && near j ⟨q.val % 16, by omega⟩

/-- Whether a place of the window lies on the grid. -/
def onGrid (i j : Fin 16) (n : Fin 9) : Prop := (1 ≤ i.val + n.val / 3 ∧ i.val + n.val / 3 - 1 < 16) ∧ (1 ≤ j.val + n.val % 3 ∧ j.val + n.val % 3 - 1 < 16)

instance (i j : Fin 16) (n : Fin 9) : Decidable (onGrid i j n) := by unfold onGrid; infer_instance

/-- The position a place of the window lies on. -/
def place (i j : Fin 16) (n : Fin 9) (h : onGrid i j n) : Fin 256 :=
  ⟨(i.val + n.val / 3 - 1) * 16 + (j.val + n.val % 3 - 1), by obtain ⟨⟨_, h1⟩, ⟨_, h2⟩⟩ := h; omega⟩

theorem sum_window (g : Fin 256 → EReal) (i j : Fin 16) :
    (∑ n : Fin 9, if h : onGrid i j n then g (place i j n h) else 0) = ∑ q : Fin 256, if nearby i j q then g q else 0 := by
  rw [← Finset.sum_filter]
  have e1 : (∑ n : Fin 9, if h : onGrid i j n then g (place i j n h) else 0)
      = ∑ n ∈ Finset.univ.filter (fun n => onGrid i j n), if h : onGrid i j n then g (place i j n h) else 0 := by
    rw [Finset.sum_filter]
    refine Finset.sum_congr rfl fun n _ => ?_
    by_cases h : onGrid i j n <;> simp only [h, dif_pos, dif_neg, not_false_eq_true, if_true, if_false]
  rw [e1]
  refine Finset.sum_bij (fun n hn => place i j n (Finset.mem_filter.mp hn).2) ?_ ?_ ?_ ?_
  · intro n hn
    obtain ⟨⟨h1, h2⟩, ⟨h3, h4⟩⟩ := (Finset.mem_filter.mp hn).2
    refine Finset.mem_filter.mpr ⟨Finset.mem_univ _, ?_⟩
    have a1 : ((i.val + n.val / 3 - 1) * 16 + (j.val + n.val % 3 - 1)) / 16 = i.val + n.val / 3 - 1 := by omega
    have a2 : ((i.val + n.val / 3 - 1) * 16 + (j.val + n.val % 3 - 1)) % 16 = j.val + n.val % 3 - 1 := by omega
    have a3 : n.val / 3 ≤ 2 := by omega
    simp only [nearby, near, place, Bool.and_eq_true, decide_eq_true_eq, a1, a2]
    omega
  · intro n hn n' hn' e
    obtain ⟨⟨h1, h2⟩, ⟨h3, h4⟩⟩ := (Finset.mem_filter.mp hn).2
    obtain ⟨⟨h1', h2'⟩, ⟨h3', h4'⟩⟩ := (Finset.mem_filter.mp hn').2
    have e' := Fin.ext_iff.mp e
    simp only [place] at e'
    exact Fin.ext (by omega)
  · intro q hq
    have h := (Finset.mem_filter.mp hq).2
    simp only [nearby, near, Bool.and_eq_true, decide_eq_true_eq] at h
    have hn : (q.val / 16 + 1 - i.val) * 3 + (q.val % 16 + 1 - j.val) < 9 := by omega
    have ho : onGrid i j ⟨(q.val / 16 + 1 - i.val) * 3 + (q.val % 16 + 1 - j.val), hn⟩ := by
      unfold onGrid; dsimp only; omega
    refine ⟨⟨_, hn⟩, Finset.mem_filter.mpr ⟨Finset.mem_univ _, ho⟩, Fin.ext ?_⟩
    simp only [place]; omega
  · intro n hn
    rw [dif_pos (Finset.mem_filter.mp hn).2]

theorem nearby_card : ∀ i j : Fin 16, (Finset.univ.filter fun q : Fin 256 => nearby i j q = true).card = count i * count j := by
  decide +kernel

/-- The shape of the grids the window slides over. -/
abbrev Grids (K : ℕ) : Shape := ⟨5, ![2, 16, 16, 16, K]⟩

abbrev win : Fin 5 → ℕ := ![1, 1, 3, 3, 1]

abbrev winShape : Shape := ⟨5, win⟩

theorem win_numel : winShape.numel = 9 := by decide

theorem win_coord : ∀ n : Fin 9, (winShape.rowMajor.symm (Fin.cast win_numel.symm n) 0).val = 0 ∧ (winShape.rowMajor.symm (Fin.cast win_numel.symm n) 1).val = 0
    ∧ (winShape.rowMajor.symm (Fin.cast win_numel.symm n) 2).val = n.val / 3 ∧ (winShape.rowMajor.symm (Fin.cast win_numel.symm n) 3).val = n.val % 3 ∧ (winShape.rowMajor.symm (Fin.cast win_numel.symm n) 4).val = 0 := by
  decide +kernel

theorem foldl_sum (l : List (Fin 9)) (f : Fin 9 → EReal) (v : EReal) : l.foldl (fun r n => r + f n) v = v + (l.map f).sum := by
  induction l generalizing v with
  | nil => simp
  | cons a l ih => rw [List.foldl_cons, ih, List.map_cons, List.sum_cons, add_assoc]

/-- A window sum read at an index. -/
theorem window_apply {K : ℕ} (y : (Grids K).Idx → EReal) (h : (Grids K).ReduceWindows win ![1, 1, 1, 1, 1] ![0, 0, 1, 1, 0] ![0, 0, 1, 1, 0] (Grids K))
    (l : Fin 2) (b i j : Fin 16) (e : Fin K) :
    Ideal.hostReduceWindowAdd win ![1, 1, 1, 1, 1] ![0, 0, 1, 1, 0] ![0, 0, 1, 1, 0] h y 0 (ix5 l b i j e)
      = ∑ q : Fin 256, if nearby i j q then y (ix5 l b ⟨q.val / 16, by omega⟩ ⟨q.val % 16, by omega⟩ e) else 0 := by
  rw [← sum_window (fun q => y (ix5 l b ⟨q.val / 16, by omega⟩ ⟨q.val % 16, by omega⟩ e))]
  unfold Ideal.hostReduceWindowAdd Host.reduceWindow
  have key : ∀ (n : Fin 9) (dec : Decidable (∀ a : Fin 5, (![0, 0, 1, 1, 0] : Fin 5 → ℕ) a ≤ ((ix5 l b i j e : (Grids K).Idx) (a.cast h.1.symm)).val * (![1, 1, 1, 1, 1] : Fin 5 → ℕ) a + (winShape.rowMajor.symm (Fin.cast win_numel.symm n) a).val
          ∧ ((ix5 l b i j e : (Grids K).Idx) (a.cast h.1.symm)).val * (![1, 1, 1, 1, 1] : Fin 5 → ℕ) a + (winShape.rowMajor.symm (Fin.cast win_numel.symm n) a).val - (![0, 0, 1, 1, 0] : Fin 5 → ℕ) a < (Grids K).size a)),
      @dite EReal (∀ a : Fin 5, (![0, 0, 1, 1, 0] : Fin 5 → ℕ) a ≤ ((ix5 l b i j e : (Grids K).Idx) (a.cast h.1.symm)).val * (![1, 1, 1, 1, 1] : Fin 5 → ℕ) a + (winShape.rowMajor.symm (Fin.cast win_numel.symm n) a).val
          ∧ ((ix5 l b i j e : (Grids K).Idx) (a.cast h.1.symm)).val * (![1, 1, 1, 1, 1] : Fin 5 → ℕ) a + (winShape.rowMajor.symm (Fin.cast win_numel.symm n) a).val - (![0, 0, 1, 1, 0] : Fin 5 → ℕ) a < (Grids K).size a) dec
        (fun hin => y (fun a => ⟨_, (hin a).2⟩)) (fun _ => (0 : EReal))
      = if h : onGrid i j n then y (ix5 l b ⟨(place i j n h).val / 16, by omega⟩ ⟨(place i j n h).val % 16, by omega⟩ e) else 0 := by
    intro n dec
    obtain ⟨w0, w1, w2, w3, w4⟩ := win_coord n
    by_cases ho : onGrid i j n
    · obtain ⟨⟨o1, o2⟩, ⟨o3, o4⟩⟩ := id ho
      have hin : ∀ a : Fin 5, (![0, 0, 1, 1, 0] : Fin 5 → ℕ) a ≤ ((ix5 l b i j e : (Grids K).Idx) (a.cast h.1.symm)).val * (![1, 1, 1, 1, 1] : Fin 5 → ℕ) a + (winShape.rowMajor.symm (Fin.cast win_numel.symm n) a).val
          ∧ ((ix5 l b i j e : (Grids K).Idx) (a.cast h.1.symm)).val * (![1, 1, 1, 1, 1] : Fin 5 → ℕ) a + (winShape.rowMajor.symm (Fin.cast win_numel.symm n) a).val - (![0, 0, 1, 1, 0] : Fin 5 → ℕ) a < (Grids K).size a := by
        intro a
        match a with
        | 0 => rw [w0]; exact ⟨Nat.zero_le _, by show l.val * 1 + 0 - 0 < 2; omega⟩
        | 1 => rw [w1]; exact ⟨Nat.zero_le _, by show b.val * 1 + 0 - 0 < 16; omega⟩
        | 2 => rw [w2]; exact ⟨by show 1 ≤ i.val * 1 + n.val / 3; omega, by show i.val * 1 + n.val / 3 - 1 < 16; omega⟩
        | 3 => rw [w3]; exact ⟨by show 1 ≤ j.val * 1 + n.val % 3; omega, by show j.val * 1 + n.val % 3 - 1 < 16; omega⟩
        | 4 => rw [w4]; exact ⟨Nat.zero_le _, by show e.val * 1 + 0 - 0 < K; omega⟩
      rw [dif_pos hin, dif_pos ho]
      refine congrArg y (funext fun a => Fin.ext ?_)
      match a with
      | 0 => show l.val * 1 + _ - 0 = l.val; rw [w0]; omega
      | 1 => show b.val * 1 + _ - 0 = b.val; rw [w1]; omega
      | 2 => show i.val * 1 + _ - 1 = (place i j n ho).val / 16; rw [w2]; dsimp only [place]; omega
      | 3 => show j.val * 1 + _ - 1 = (place i j n ho).val % 16; rw [w3]; dsimp only [place]; omega
      | 4 => show e.val * 1 + _ - 0 = e.val; rw [w4]; omega
    · rw [dif_neg ho, dif_neg]
      intro hin
      refine ho ?_
      have h2 := hin 2
      have h3 := hin 3
      rw [w2] at h2
      rw [w3] at h3
      have h2' : 1 ≤ i.val * 1 + n.val / 3 ∧ i.val * 1 + n.val / 3 - 1 < 16 := h2
      have h3' : 1 ≤ j.val * 1 + n.val % 3 ∧ j.val * 1 + n.val % 3 - 1 < 16 := h3
      exact ⟨by omega, by omega⟩
  refine Eq.trans ?_ ((foldl_sum (List.finRange 9) (fun n => if h : onGrid i j n then y (ix5 l b ⟨(place i j n h).val / 16, by omega⟩ ⟨(place i j n h).val % 16, by omega⟩ e) else 0) 0).trans ?_)
  · exact congrArg (fun F : EReal → Fin 9 → EReal => (List.finRange 9).foldl F 0) (funext fun r => funext fun n => congrArg (r + ·) (key n _))
  · rw [zero_add, ← List.ofFn_eq_map, List.sum_ofFn]

end Cert.Spec
-- ==== Proof.Value.Tables.lean ====
module

public import proofs.«01_k».proof.Proof.Value.Readings
public import proofs.«01_k».proof.Proof.Value.Host
public import proofs.«01_k».proof.Proof.Value.Features
public import proofs.«01_k».proof.Proof.Value.Maps

@[expose] public section

set_option maxRecDepth 16384

noncomputable section

/-! The two programs' interpolation weights are the same real numbers, and so are their score maps. -/

namespace Cert.Spec

open Idealize.ShloMosaic Idealize.ShloMosaic.TcCoe

/-- The real sum under the embedding. -/
theorem coe_sum {ι : Type} [Fintype ι] (g : ι → ℝ) : (∑ i, (g i : EReal)) = ((∑ i, g i : ℝ) : EReal) :=
  (map_sum (⟨⟨Real.toEReal, EReal.coe_zero⟩, EReal.coe_add⟩ : ℝ →+ EReal) g Finset.univ).symm

theorem coe_max (a b : ℝ) : max (a : EReal) (b : EReal) = ((max a b : ℝ) : EReal) :=
  ((EReal.coe_strictMono.monotone).map_max).symm

/-- A quotient by a real number that is not zero. -/
theorem div_real {y : ℝ} (h : y ≠ 0) (x : ℝ) : Ideal.div (x : EReal) (y : EReal) = ((x / y : ℝ) : EReal) := by
  rw [Ideal.div_coe h, ← EReal.coe_mul, mul_one_div]

/-- The triangle weight of an input position at an output position. -/
def hat (h : Fin 224) (j : Fin 16) : ℝ := max 0 (1 - |((h.val : ℝ) + 1 / 2) / 14 - 1 / 2 - j.val|)

theorem hat_nonneg (h : Fin 224) (j : Fin 16) : 0 ≤ hat h j := le_max_left _ _

theorem hat_sum_pos (h : Fin 224) : 0 < ∑ j, hat h j := by
  refine Finset.sum_pos' (fun j _ => hat_nonneg h j) ⟨⟨h.val / 14, by omega⟩, Finset.mem_univ _, ?_⟩
  refine lt_of_lt_of_le ?_ (le_max_right _ _)
  have e : (h.val : ℝ) = 14 * ((h.val / 14 : ℕ) : ℝ) + ((h.val % 14 : ℕ) : ℝ) := by exact_mod_cast (Nat.div_add_mod h.val 14).symm
  have h1 : ((h.val % 14 : ℕ) : ℝ) ≤ 13 := by exact_mod_cast (by omega : h.val % 14 ≤ 13)
  have h0 : (0 : ℝ) ≤ ((h.val % 14 : ℕ) : ℝ) := Nat.cast_nonneg _
  rw [sub_pos, abs_lt]
  dsimp only
  constructor <;> linarith

/-- The interpolation weight of an input position at an output position. -/
def weight (h : Fin 224) (j : Fin 16) : ℝ := hat h j / ∑ k, hat h k

theorem weight_nonneg (h : Fin 224) (j : Fin 16) : 0 ≤ weight h j := div_nonneg (hat_nonneg h j) (hat_sum_pos h).le

theorem one_value : Ideal.ofBits .f32 0x3F800000#32 = ((1 : ℝ) : EReal) := by
  simp [Ideal.ofBits, Ideal.ieee, -EReal.coe_mul]; norm_num
theorem fourteen_value : Ideal.ofBits .f32 0x41600000#32 = ((14 : ℝ) : EReal) := by
  simp [Ideal.ofBits, Ideal.ieee, -EReal.coe_mul]; norm_num
theorem sixteen_value : Ideal.ofBits .f32 0x41800000#32 = ((16 : ℝ) : EReal) := by
  simp [Ideal.ofBits, Ideal.ieee, -EReal.coe_mul]; norm_num
theorem size_value : Ideal.ofBits .f32 0x43600000#32 = ((224 : ℝ) : EReal) := by
  simp [Ideal.ofBits, Ideal.ieee, -EReal.coe_mul]; norm_num

theorem small_value (n : ℕ) (h : n < 224) : (FloatOps.sitofp .f32 (BitVec.ofNat 32 n) : Ideal .f32) = ((n : ℝ) : EReal) := by
  have : (BitVec.ofNat 32 n).toInt = (n : ℤ) := by
    have h2 : (BitVec.ofNat 32 n).toNat = n := by rw [BitVec.toNat_ofNat]; omega
    rw [BitVec.toInt_eq_toNat_of_lt (by omega), h2]
  show (((BitVec.ofNat 32 n).toInt : ℝ) : EReal) = _
  rw [this]; simp

theorem abs_real (x : ℝ) : (FloatOps.absf (F := Ideal) (φ := .f32) (x : EReal) : Ideal .f32) = ((|x| : ℝ) : EReal) := by
  show max (x : EReal) (-(x : EReal)) = _
  rw [← EReal.coe_neg, coe_max]; rfl

theorem maps_eq (t : Fin 224 → Fin 16 → ℝ) (ht : ∀ h j, 0 ≤ t h j) (s : Fin 256 → EReal) (h w : Fin 224) :
    (∑ p : Fin 256, (t h ⟨p.val / 16, by omega⟩ : EReal) * s p * (t w ⟨p.val % 16, by omega⟩ : EReal))
      = ∑ x : Fin 16, (∑ y : Fin 16, (t h y : EReal) * s ⟨y.val * 16 + x.val, by omega⟩) * (t w x : EReal) := by
  have hm : ∀ (c : ℝ) (hc : 0 ≤ c) (f : Fin 16 → EReal), (∑ y, f y) * (c : EReal) = ∑ y, f y * (c : EReal) := fun c hc f => by
    have hd : ∀ a b : EReal, (a + b) * (c : EReal) = a * c + b * c :=
      fun a b => EReal.right_distrib_of_nonneg_of_ne_top (EReal.coe_nonneg.mpr hc) (EReal.coe_ne_top c) a b
    exact map_sum (⟨⟨fun a => a * (c : EReal), zero_mul _⟩, hd⟩ : EReal →+ EReal) f Finset.univ
  have e : ∀ x : Fin 16, (∑ y : Fin 16, (t h y : EReal) * s ⟨y.val * 16 + x.val, by omega⟩) * (t w x : EReal)
      = ∑ y : Fin 16, (t h y : EReal) * s ⟨y.val * 16 + x.val, by omega⟩ * (t w x : EReal) := fun x => hm _ (ht w x) _
  simp only [e]
  rw [Finset.sum_comm, ← Finset.sum_product' (s := Finset.univ) (t := Finset.univ) (f := fun y x : Fin 16 => (t h y : EReal) * s ⟨y.val * 16 + x.val, by omega⟩ * (t w x : EReal))]
  refine Finset.sum_bij' (fun p _ => ((⟨p.val / 16, by omega⟩, ⟨p.val % 16, by omega⟩) : Fin 16 × Fin 16))
    (fun z _ => ⟨z.1.val * 16 + z.2.val, by omega⟩) (fun _ _ => Finset.mem_product.mpr ⟨Finset.mem_univ _, Finset.mem_univ _⟩) (fun _ _ => Finset.mem_univ _) ?_ ?_ ?_
  · intro p _; exact Fin.ext (by dsimp only; omega)
  · intro z _; exact Prod.ext (Fin.ext (by dsimp only; omega)) (Fin.ext (by dsimp only; omega))
  · intro p _
    have : (⟨p.val / 16 * 16 + p.val % 16, by omega⟩ : Fin 256) = p := Fin.ext (by dsimp only; omega)
    simp only [this]

end Cert.Spec

namespace Cert.KernelIdeal.Val

open Cert.Spec Cert.KernelIdeal.Gen
open Idealize.ShloMosaic Idealize.ShloMosaic.TcCoe

theorem tri_apply (h : Fin 224) (j : Fin 16) : tri (ix2 h j) = ((hat h j : ℝ) : EReal) := by
  have e : tri (ix2 h j) = max (Ideal.ofBits .f32 0x00000000#32) (Ideal.ofBits .f32 0x3F800000#32 - FloatOps.absf (Ideal.div ((FloatOps.sitofp .f32 (BitVec.ofNat 32 h.val) : Ideal .f32) + Ideal.ofBits .f32 0x3F000000#32) (Ideal.ofBits .f32 0x41600000#32) - Ideal.ofBits .f32 0x3F000000#32 - (FloatOps.sitofp .f32 (BitVec.ofNat 32 j.val) : Ideal .f32) : Ideal .f32)) := rfl
  rw [e, small_value _ (by omega), small_value _ (by omega), half_value, one_value, fourteen_value, ← EReal.coe_add, div_real (by norm_num), ← EReal.coe_sub, ← EReal.coe_sub, abs_real, ← EReal.coe_sub, Ideal.ofBits_zero_f32, ← EReal.coe_zero, coe_max]
  rfl

theorem tab_apply (h : Fin 224) (j : Fin 16) : tab (ix2 h j) = ((weight h j : ℝ) : EReal) := by
  have e : tab (ix2 h j) = Ideal.div (tri (ix2 h j)) (∑ k : Fin 16, tri (ix2 h k)) := by
    unfold tab
    generalize tri = t
    pointwise
  simp only [e, tri_apply]
  rw [coe_sum, div_real (hat_sum_pos h).ne']
  rfl

end Cert.KernelIdeal.Val

namespace Cert.ReferenceIdeal.Val

open Cert.Spec Cert.ReferenceIdeal.Gen
open Idealize.ShloMosaic Idealize.ShloMosaic.TcCoe

theorem tri_apply (h : Fin 224) (j : Fin 16) : tri (ix2 h j) = ((hat h j : ℝ) : EReal) := by
  have e : tri (ix2 h j) = max (Ideal.ofBits .f32 0x00000000#32) (Ideal.ofBits .f32 0x3F800000#32 - FloatOps.absf (Ideal.div (((FloatOps.sitofp .f32 (BitVec.ofNat 32 h.val) : Ideal .f32) + Ideal.ofBits .f32 0x3F000000#32) * Ideal.ofBits .f32 0x41800000#32) (Ideal.ofBits .f32 0x43600000#32) - Ideal.ofBits .f32 0x3F000000#32 - (FloatOps.sitofp .f32 (BitVec.ofNat 32 j.val) : Ideal .f32) : Ideal .f32)) := rfl
  rw [e, small_value _ (by omega), small_value _ (by omega), half_value, one_value, sixteen_value, size_value, ← EReal.coe_add, ← EReal.coe_mul, div_real (by norm_num), ← EReal.coe_sub, ← EReal.coe_sub, abs_real, ← EReal.coe_sub, Ideal.ofBits_zero_f32, ← EReal.coe_zero, coe_max]
  have : ((h.val : ℝ) + 1 / 2) * 16 / 224 = ((h.val : ℝ) + 1 / 2) / 14 := by ring
  rw [this]
  rfl

theorem weights_apply (h : Fin 224) (j : Fin 16) : tab (ix2 h j) = ((weight h j : ℝ) : EReal) := by
  simp only [tab_apply, tri_apply]
  rw [coe_sum, div_real (hat_sum_pos h).ne']
  rfl

end Cert.ReferenceIdeal.Val

namespace Cert.Spec

open Idealize.ShloMosaic Idealize.ShloMosaic.TcCoe

/-- The two programs' score maps of equal scores are equal. -/
theorem same_maps (s : FVec Ideal Cert.KernelIdeal.S4096 .f32) (s' : FVec Ideal Cert.ReferenceIdeal.S16x256 .f32)
    (hs : ∀ (b : Fin 16) (p : Fin 256), s (ix1 ⟨256 * b.val + p.val, by omega⟩) = s' (ix2 b p)) :
    KernelIdeal.Val.maps s KernelIdeal.Val.tabA KernelIdeal.Val.tabB = ReferenceIdeal.Val.maps s' := by
  funext y
  idx_vars y
  rw [ReferenceIdeal.Val.maps_apply]
  simp only [KernelIdeal.Val.maps, ReferenceIdeal.Val.weights_apply]
  refine Eq.trans ?_ (maps_eq weight weight_nonneg (fun p => s' (ix2 y0 p)) y1 y2)
  refine Finset.sum_congr rfl fun p _ => ?_
  rw [← hs]
  refine congrArg₂ _ (congrArg₂ _ ?_ rfl) ?_
  · exact (KernelIdeal.Val.tabA_apply y1 p).trans (KernelIdeal.Val.tab_apply _ _)
  · exact (KernelIdeal.Val.tabB_apply p y2).trans (KernelIdeal.Val.tab_apply _ _)

end Cert.Spec
-- ==== Proof.Value.Fields.lean ====
module

public import proofs.«01_k».proof.Proof.Value.Window
public import proofs.«01_k».proof.Proof.Value.Tables

@[expose] public section

set_option maxRecDepth 16384

noncomputable section

/-! The reference's four feature fields are the features the first kernel writes. -/

namespace Cert.Spec

open Idealize.ShloMosaic Idealize.ShloMosaic.TcCoe
open Cert.KernelIdeal.Val (near axisTab poolTab patches net axisTab_apply poolTab_apply patches_apply)

section
variable (a0 : FVec Ideal Cert.ReferenceIdeal.S16x3x224x224 .f32) (a1 : FVec Ideal Cert.ReferenceIdeal.S588x1024 .f32) (a2 : FVec Ideal Cert.ReferenceIdeal.S1024 .f32)
    (a3 : FVec Ideal Cert.ReferenceIdeal.S2x1024x1024 .f32) (a4 : FVec Ideal Cert.ReferenceIdeal.S2x1024 .f32)

/-- The patches of an image. -/
def pt (b : Fin 16) (p : Fin 256) (x : Fin 588) : EReal := patches a0 (ix3 b p x)

theorem pre_eq (l : Fin 2) (b : Fin 16) (p : Fin 256) (e : Fin 1024) :
    ReferenceIdeal.Val.pre a0 a1 a2 a3 a4 (ix3 l ⟨b.val * 256 + p.val, by omega⟩ e) = linear (net a1 a2 a3 a4) (pt a0 b) l p e := by
  rw [ReferenceIdeal.Val.pre_apply]
  refine congrArg₂ (· + ·) (Finset.sum_congr rfl fun d _ => ?_) rfl
  rw [mul_comm]
  refine congrArg₂ (· * ·) (congrArg₂ (· + ·) (Finset.sum_congr rfl fun k _ => congrArg₂ (· * ·) ?_ rfl) rfl) rfl
  have e1 : (⟨(b.val * 256 + p.val) / 256, by omega⟩ : Fin 16) = b := Fin.ext (by dsimp only; omega)
  have e2 : (b.val * 256 + p.val) / 16 % 16 = p.val / 16 := by omega
  have e3 : (b.val * 256 + p.val) % 16 = p.val % 16 := by omega
  rw [pt, patches_apply]
  simp only [e1, e2, e3]

theorem act_eq (l : Fin 2) (b : Fin 16) (p : Fin 256) (e : Fin 1024) :
    ReferenceIdeal.Val.act (ReferenceIdeal.Val.pre a0 a1 a2 a3 a4) (ix3 l ⟨b.val * 256 + p.val, by omega⟩ e) = layer (net a1 a2 a3 a4) (pt a0 b) l p e := by
  rw [ReferenceIdeal.Val.act_apply, pre_eq, layer, gelu, one_value, EReal.coe_one, mul_assoc (linear _ _ _ _ _) (linear _ _ _ _ _) (linear _ _ _ _ _)]

end

theorem broadcast_last (v : FVec Ideal Cert.ReferenceIdeal.S2x16x16x16x1 .f32) (l : Fin 2) (b i j : Fin 16) (e : Fin 1024) :
    broadcastInDim Cert.ReferenceIdeal.S2x16x16x16x1024 ![0, 1, 2, 3, 4] Cert.ReferenceIdeal.Gen.bcast_S2x16x16x16x1_S2x16x16x16x1024_0_1_2_3_4 v (ix5 l b i j e)
      = v (ix5 l b i j 0) := by
  pointwise

theorem pooled_apply (x : FVec Ideal Cert.ReferenceIdeal.S2x4096x1024 .f32) (l : Fin 2) (b i j : Fin 16) (e : Fin 1024) :
    ReferenceIdeal.Val.pooled x (ix5 l b i j e)
      = Ideal.div (∑ q : Fin 256, if nearby i j q then x (ix3 l ⟨b.val * 256 + q.val, by omega⟩ e) else 0)
          (∑ q : Fin 256, if nearby i j q then (1 : EReal) else 0) := by
  set y : (Grids 1024).Idx → EReal := shapeCast (Cert.ReferenceIdeal.S2x16x16x16x1024) x Cert.ReferenceIdeal.Facts₀.shapeCasts_S2x4096x1024_S2x16x16x16x1024 with hy
  have hv : ∀ q : Fin 256, y (ix5 l b ⟨q.val / 16, by omega⟩ ⟨q.val % 16, by omega⟩ e) = x (ix3 l ⟨b.val * 256 + q.val, by omega⟩ e) := fun q => by
    have h : ∀ u v : Fin 16, y (ix5 l b u v e) = x (ix3 l ⟨b.val * 256 + (u.val * 16 + v.val), by omega⟩ e) := fun u v => by
      have e : (⟨b.val * 256 + (u.val * 16 + v.val), by omega⟩ : Fin 4096) = ⟨b.val * 256 + u.val * 16 + v.val, by omega⟩ := Fin.ext (by dsimp only; omega)
      rw [hy, e]
      pointwise
    rw [h]
    have : (⟨b.val * 256 + (q.val / 16 * 16 + q.val % 16), by omega⟩ : Fin 4096) = ⟨b.val * 256 + q.val, by omega⟩ := Fin.ext (by dsimp only; omega)
    dsimp only
    rw [this]
  have hw : (Grids 1).ReduceWindows win ![1, 1, 1, 1, 1] ![0, 0, 1, 1, 0] ![0, 0, 1, 1, 0] (Grids 1) :=
    Cert.ReferenceIdeal.Facts₀.reduceWindows_S2x16x16x16x1_S2x16x16x16x1_w1s1p0_0_w1s1p0_0_w3s1p1_1_w3s1p1_1_w1s1p0_0
  have e1 : ReferenceIdeal.Val.pooled x (ix5 l b i j e)
      = Ideal.div (Ideal.hostReduceWindowAdd win ![1, 1, 1, 1, 1] ![0, 0, 1, 1, 0] ![0, 0, 1, 1, 0] Cert.ReferenceIdeal.Facts₀.reduceWindows_S2x16x16x16x1024_S2x16x16x16x1024_w1s1p0_0_w1s1p0_0_w3s1p1_1_w3s1p1_1_w1s1p0_0 y (Ideal.ofBits .f32 0x00000000#32) (ix5 l b i j e))
          (Ideal.hostReduceWindowAdd (s := Grids 1) (t := Grids 1) win ![1, 1, 1, 1, 1] ![0, 0, 1, 1, 0] ![0, 0, 1, 1, 0] hw (fun _ => Ideal.ofBits .f32 0x3F800000#32) (Ideal.ofBits .f32 0x00000000#32) (ix5 l b i j 0)) := by
    rw [hy]
    unfold ReferenceIdeal.Val.pooled
    exact congrArg₂ Ideal.div rfl ((broadcast_last _ l b i j e).trans rfl)
  rw [e1, Ideal.ofBits_zero_f32, window_apply, window_apply, one_value, EReal.coe_one]
  simp only [hv]

theorem nearby_sum (i j : Fin 16) : (∑ q : Fin 256, if nearby i j q then (1 : EReal) else 0) = (((KernelIdeal.Val.count i * KernelIdeal.Val.count j : ℕ) : ℝ) : EReal) := by
  rw [← nearby_card, Finset.sum_boole]
  rfl

theorem count_pos (i : Fin 16) : (0 : ℝ) < KernelIdeal.Val.count i := by
  have : 0 < KernelIdeal.Val.count i := by unfold KernelIdeal.Val.count; split <;> omega
  exact_mod_cast this

theorem axis_real (i j : Fin 16) : axisTab (ix2 i j) = ((if near i j then 1 / (KernelIdeal.Val.count i : ℝ) else 0 : ℝ) : EReal) := by
  rw [axisTab_apply]
  split
  · rw [← EReal.coe_one, div_real (count_pos i).ne']
  · exact EReal.coe_zero.symm

theorem axis_mul (i j u v : Fin 16) (r : ℝ) : (if near i u then 1 / (KernelIdeal.Val.count i : ℝ) else 0) * (if near j v then 1 / (KernelIdeal.Val.count j : ℝ) else 0) * r
    = (if near i u && near j v then r else 0) / ((KernelIdeal.Val.count i * KernelIdeal.Val.count j : ℕ) : ℝ) := by
  have hi := count_pos i
  have hj := count_pos j
  push_cast
  cases near i u <;> cases near j v <;> simp
  field_simp

/-- The neighbourhood table's product is the window's mean. -/
theorem pool_eq (r : Fin 256 → ℝ) (p : Fin 256) :
    (∑ q : Fin 256, poolTab (ix2 p q) * (r q : EReal))
      = Ideal.div (∑ q : Fin 256, if nearby ⟨p.val / 16, by omega⟩ ⟨p.val % 16, by omega⟩ q then (r q : EReal) else 0)
          (∑ q : Fin 256, if nearby ⟨p.val / 16, by omega⟩ ⟨p.val % 16, by omega⟩ q then (1 : EReal) else 0) := by
  set i : Fin 16 := ⟨p.val / 16, by omega⟩
  set j : Fin 16 := ⟨p.val % 16, by omega⟩
  have hi := count_pos i
  have hj := count_pos j
  have e1 : ∀ q : Fin 256, poolTab (ix2 p q) * (r q : EReal) = (((if nearby i j q then r q else 0) / ((KernelIdeal.Val.count i * KernelIdeal.Val.count j : ℕ) : ℝ) : ℝ) : EReal) := fun q => by
    rw [poolTab_apply, axis_real, axis_real, ← EReal.coe_mul, ← EReal.coe_mul]
    exact congrArg Real.toEReal (axis_mul i j _ _ (r q))
  have e2 : ∀ q : Fin 256, (if nearby i j q then (r q : EReal) else 0) = ((if nearby i j q then r q else 0 : ℝ) : EReal) := fun q => by
    split <;> simp
  simp only [e1, e2, nearby_sum]
  rw [coe_sum, coe_sum, div_real (by push_cast; exact (mul_pos hi hj).ne'), Finset.sum_div]

/-- The reference's fields are the features. -/
theorem fields_eq (a0 : FVec Ideal Cert.ReferenceIdeal.S16x3x224x224 .f32) (a1 : FVec Ideal Cert.ReferenceIdeal.S588x1024 .f32) (a2 : FVec Ideal Cert.ReferenceIdeal.S1024 .f32)
    (a3 : FVec Ideal Cert.ReferenceIdeal.S2x1024x1024 .f32) (a4 : FVec Ideal Cert.ReferenceIdeal.S2x1024 .f32)
    (hl : ∀ l b p e, IsReal (layer (net a1 a2 a3 a4) (pt a0 b) l p e)) (f : Fin 4) (b : Fin 16) (p : Fin 256) (e : Fin 1024) :
    ReferenceIdeal.Val.fields (ReferenceIdeal.Val.act (ReferenceIdeal.Val.pre a0 a1 a2 a3 a4)) (ix3 f ⟨b.val * 256 + p.val, by omega⟩ e)
      = feature (net a1 a2 a3 a4) (fun p q => poolTab (ix2 p q)) (pt a0 b) f p e := by
  unfold feature
  by_cases h : f.val < 2
  · rw [dif_pos h, ReferenceIdeal.Val.fields_low _ f h, act_eq]
  · rw [dif_neg h, ReferenceIdeal.Val.fields_high _ f h, pooled_apply]
    choose r hr using fun q => hl ⟨f.val - 2, by omega⟩ b q e
    simp only [hr]
    rw [pool_eq r p]
    have e1 : (⟨(b.val * 256 + p.val) / 256, by omega⟩ : Fin 16) = b := Fin.ext (by dsimp only; omega)
    have e2 : (⟨(b.val * 256 + p.val) / 16 % 16, by omega⟩ : Fin 16) = ⟨p.val / 16, by omega⟩ := Fin.ext (by dsimp only; omega)
    have e3 : (⟨(b.val * 256 + p.val) % 16, by omega⟩ : Fin 16) = ⟨p.val % 16, by omega⟩ := Fin.ext (by dsimp only; omega)
    have e4 : (b.val * 256 + p.val) / 256 = b.val := by omega
    simp only [e2, e3, e4, Fin.eta, act_eq, hr]

end Cert.Spec
-- ==== Proof.Value.Scores.lean ====
module

public import proofs.«01_k».proof.Proof.Value.Slots
public import proofs.«01_k».proof.Proof.Value.Fields

@[expose] public section

set_option maxRecDepth 16384

noncomputable section

/-! The two programs' position scores of the same features are equal. -/

namespace Cert.Spec

open Idealize.ShloMosaic Idealize.ShloMosaic.TcCoe
open Cert.KernelIdeal.Val (root cand reduced)

theorem row_lt (b : Fin 16) (p : Fin 256) : b.val * 256 + p.val < 4096 := by omega
theorem pair_lt (r l : Fin 2) : r.val * 2 + l.val < 4 := by omega

theorem sqrt_mono : Monotone Ideal.sqrt := by
  intro x y h
  induction x with
  | bot => exact bot_le
  | top => rw [top_le_iff.mp h]
  | coe r =>
    induction y with
    | bot => exact absurd h (by simp)
    | top => exact le_top
    | coe s =>
      have h' : r ≤ s := EReal.coe_le_coe_iff.mp h
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt h')

theorem root_mono (c : EReal) : Monotone (root c) := fun x y h => sqrt_mono (max_le_max (add_le_add_left h c) le_rfl)

section
variable (a : Fin 4 → Fin 16 → Fin 256 → Fin 1024 → EReal) (A : FVec Ideal Cert.ReferenceIdeal.S4x4096x1024 .f32)
  (hA : ∀ f (b : Fin 16) (p : Fin 256) e, A (ix3 f ⟨b.val * 256 + p.val, row_lt b p⟩ e) = a f b p e)

/-- A position's sum of squares. -/
def norm (f : Fin 4) (b : Fin 16) (p : Fin 256) : EReal := ∑ e, a f b p e * a f b p e

include hA in
theorem roots_eq (hn : ∀ f b p, norm a f b p ≠ ⊥) (f : Fin 4) (b : Fin 16) (p : Fin 256) (b' : Fin 16) :
    ReferenceIdeal.Val.roots (ReferenceIdeal.Val.mins (ReferenceIdeal.Val.split (ReferenceIdeal.Val.dists A))) (ix4 f b p b')
      = root (norm a f b p) (cand (a f) (norm a f) b p b') := by
  rw [ReferenceIdeal.Val.roots_apply, ReferenceIdeal.Val.mins_apply]
  simp only [ReferenceIdeal.Val.split_apply, ReferenceIdeal.Val.dists_apply, hA]
  unfold root
  congr 2
  by_cases h : b = b'
  · simp only [cand, h, if_true]
    rw [KernelIdeal.Val.top_word, EReal.top_add_of_ne_bot (h ▸ hn f b p)]
    exact Finset.fold_const _ (by simp)
  · simp only [cand, h, if_false, reduced]
    rw [KernelIdeal.Val.top_word]
    have hm : ∀ x y : EReal, min x y + norm a f b p = min (x + norm a f b p) (y + norm a f b p) := fun x y =>
      (show Monotone fun z : EReal => z + norm a f b p from fun u v huv => add_le_add_left huv _).map_min
    have hf := Finset.fold_hom (op := min) (op' := min) (m := fun z : EReal => z + norm a f b p) hm (b := (⊤ : EReal)) (s := Finset.univ)
      (f := fun q : Fin 256 => norm a f b' q - Ideal.ofBits .f32 0x40000000#32 * ∑ d : Fin 1024, a f b' q d * a f b p d)
    rw [EReal.top_add_of_ne_bot (hn f b p)] at hf
    refine Eq.trans ?_ hf
    refine congrArg (Finset.fold min ⊤ · Finset.univ) (funext fun q => ?_)
    have e : (∑ e : Fin 1024, a f b p e * a f b' q e) = ∑ d : Fin 1024, a f b' q d * a f b p d := Finset.sum_congr rfl fun d _ => mul_comm _ _
    rw [e, sub_eq_add_neg, sub_eq_add_neg, add_assoc, add_comm]
    rfl

include hA in
theorem sorted_eq (hn : ∀ f b p, norm a f b p ≠ ⊥) (f : Fin 4) (b : Fin 16) (p : Fin 256) (j : Fin 16) :
    Host.sort Cert.ReferenceIdeal.S4x16x256x16 3 (Cert.ReferenceIdeal.comparator_f32_d3 (F := Ideal)) (ReferenceIdeal.Val.roots (ReferenceIdeal.Val.mins (ReferenceIdeal.Val.split (ReferenceIdeal.Val.dists A)))) (ix4 f b p j)
      = root (norm a f b p) (Least.nth (Finset.univ.val.map fun b' : Fin 16 => cand (a f) (norm a f) b p b') j.val) := by
  rw [ReferenceIdeal.Val.sort_apply]
  simp only [roots_eq a A hA hn]
  rw [← Least.nth_map (root (norm a f b p)) (root_mono _) _ _ (by simp), Multiset.map_map]
  rfl

end

theorem two_value : Ideal.ofBits .f32 0x40000000#32 = ((2 : ℝ) : EReal) := by
  simp [Ideal.ofBits, Ideal.ieee, -EReal.coe_mul]; norm_num
theorem four_value : Ideal.ofBits .f32 0x40800000#32 = ((4 : ℝ) : EReal) := by
  simp [Ideal.ofBits, Ideal.ieee, -EReal.coe_mul]; norm_num
theorem five_value : Ideal.ofBits .f32 0x40A00000#32 = ((5 : ℝ) : EReal) := by
  simp [Ideal.ofBits, Ideal.ieee, -EReal.coe_mul]; norm_num

/-- The mean of the twenty at once is the mean of the means. -/
theorem mean_eq (t : Fin 4 → EReal) :
    Ideal.div (∑ f, t f) (Ideal.ofBits .f32 0x40800000#32) * ((5⁻¹ : ℝ) : EReal)
      = Ideal.div (∑ r : Fin 2, Ideal.div (∑ l : Fin 2, Ideal.div (t ⟨r.val * 2 + l.val, pair_lt r l⟩)
        (Ideal.ofBits .f32 0x40A00000#32)) (Ideal.ofBits .f32 0x40000000#32)) (Ideal.ofBits .f32 0x40000000#32) := by
  have hd : ∀ (c : ℝ) (hc : 0 ≤ c) (a b : EReal), (a + b) * (c : EReal) = a * c + b * c :=
    fun c hc a b => EReal.right_distrib_of_nonneg_of_ne_top (EReal.coe_nonneg.mpr hc) (EReal.coe_ne_top c) a b
  rw [two_value, four_value, five_value]
  simp only [Ideal.div_coe (show (2 : ℝ) ≠ 0 by norm_num), Ideal.div_coe (show (4 : ℝ) ≠ 0 by norm_num), Ideal.div_coe (show (5 : ℝ) ≠ 0 by norm_num),
    Fin.sum_univ_two, Fin.sum_univ_four]
  have e0 : (⟨(0 : Fin 2).val * 2 + (0 : Fin 2).val, by decide⟩ : Fin 4) = 0 := rfl
  have e1 : (⟨(0 : Fin 2).val * 2 + (1 : Fin 2).val, by decide⟩ : Fin 4) = 1 := rfl
  have e2 : (⟨(1 : Fin 2).val * 2 + (0 : Fin 2).val, by decide⟩ : Fin 4) = 2 := rfl
  have e3 : (⟨(1 : Fin 2).val * 2 + (1 : Fin 2).val, by decide⟩ : Fin 4) = 3 := rfl
  rw [e0, e1, e2, e3]
  simp only [hd (1 / 2) (by norm_num), hd (1 / 4) (by norm_num), hd 5⁻¹ (by norm_num), mul_assoc, ← EReal.coe_mul]
  rw [add_assoc (t 0 * _ + t 1 * _)]
  norm_num

/-- The scores of the two programs. -/
theorem score_eq (a : Fin 4 → Fin 16 → Fin 256 → Fin 1024 → EReal) (A : FVec Ideal Cert.ReferenceIdeal.S4x4096x1024 .f32)
    (hA : ∀ f (b : Fin 16) (p : Fin 256) e, A (ix3 f ⟨b.val * 256 + p.val, row_lt b p⟩ e) = a f b p e)
    (hn : ∀ f b p, norm a f b p ≠ ⊥) (b : Fin 16) (p : Fin 256)
    (x0 x1 : FVec Ideal Cert.KernelIdeal.S4x5x4x4096 .f32) (x2 : FVec Ideal Cert.KernelIdeal.S4x1x4096 .f32) (k : Fin 4096)
    (h2 : ∀ f, x2 (ix3 f 0 k) = norm a f b p)
    (h01 : ∀ f (j : Fin 5), Least.nth (KernelIdeal.Val.column (KernelIdeal.Val.slots x0 x1) f k) j = Least.nth (Finset.univ.val.map fun b' : Fin 16 => cand (a f) (norm a f) b p b') j) :
    KernelIdeal.Body.scores x0 x1 x2 (ix1 k)
      = ReferenceIdeal.Val.means (Host.sort Cert.ReferenceIdeal.S4x16x256x16 3 (Cert.ReferenceIdeal.comparator_f32_d3 (F := Ideal)) (ReferenceIdeal.Val.roots (ReferenceIdeal.Val.mins (ReferenceIdeal.Val.split (ReferenceIdeal.Val.dists A))))) (ix2 b p) := by
  rw [ReferenceIdeal.Val.means_apply, KernelIdeal.Val.scores_apply]
  simp only [sorted_eq a A hA hn, h2, h01]
  exact mean_eq fun f => ∑ j : Fin 5, root (norm a f b p) (Least.nth (Finset.univ.val.map fun b' : Fin 16 => cand (a f) (norm a f) b p b') j)

end Cert.Spec
-- ==== Proof.Value.Finite.lean ====
module

public import proofs.«01_k».proof.Pre_all_finite
public import proofs.«01_k».proof.Proof.Value.Fields
public import Idealize.ShloMosaic.Lib.ReduceAll

@[expose] public section

set_option maxRecDepth 16384

noncomputable section

/-! The precondition read back: every element of every argument is a real number, so every quantity the two programs compute
    from them up to the distances is one too. -/

namespace Cert.Spec

open Idealize.ShloMosaic Idealize.ShloMosaic.TcCoe
open Cert.KernelIdeal.Val (net patches poolTab)

theorem finite_facts : Cert.Pre_all_finite.Facts :=
  ⟨by decide, by decide, by decide, by decide, by decide, by decide, by decide, by decide, by decide, by decide, by decide⟩

theorem real_of_lt {x : EReal} (h : max x (-x) < ⊤) : IsReal x := by
  induction x with
  | bot => simp at h
  | top => simp at h
  | coe r => exact ⟨r, rfl⟩

/-- One conjunct of the precondition. -/
theorem all_real {s : Shape} {axes : List (Fin s.rank)} (x : FVec Ideal s .f32) (d : Fin 0 → Fin s.rank)
    (hb : Cert.Pre_all_finite.S_.BroadcastsInDim s d) (hr : s.ReducesTo axes Cert.Pre_all_finite.S_) (h0 : 0 < Cert.Pre_all_finite.S_.numel)
    (j : Cert.Pre_all_finite.S_.Idx)
    (e : Host.reduce IntOp.andi (cmpf .olt (Host.absf x) (broadcastInDim s d hb (constant Cert.Pre_all_finite.S_ .f32 0x7F800000#32)))
      (constantI Cert.Pre_all_finite.S_ 1 1#1) hr h0 j = 1#1) (i : s.Idx) : IsReal (x i) := by
  have h := Host.reduce_andi_all _ _ _ _ j e i
  have h' : BitVec.ofBool (decide (max (x i) (-(x i)) < Ideal.ofBits .f32 0x7F800000#32)) = 1#1 := h
  rw [KernelIdeal.Val.top_word] at h'
  refine real_of_lt ?_
  by_contra hn
  rw [decide_eq_false hn] at h'
  exact absurd h' (by decide)

section
variable [Cert.Pre_all_finite.Facts] {a0 : FVec Ideal Cert.Pre_all_finite.S16x3x224x224 .f32} {a1 : FVec Ideal Cert.Pre_all_finite.S588x1024 .f32}
  {a2 : FVec Ideal Cert.Pre_all_finite.S1024 .f32} {a3 : FVec Ideal Cert.Pre_all_finite.S2x1024x1024 .f32} {a4 : FVec Ideal Cert.Pre_all_finite.S2x1024 .f32}

/-- The precondition says that every element is real. -/
theorem finite_args (h : Cert.Pre_all_finite.fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun h finZeroElim
  unfold Cert.Pre_all_finite.fn Cert.Pre_all_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real a0 _ _ _ _ _ e0, all_real a1 _ _ _ _ _ e1, all_real a2 _ _ _ _ _ e2, all_real a3 _ _ _ _ _ e3, all_real a4 _ _ _ _ _ e4⟩

end

theorem pool_real (p q : Fin 256) : IsReal (poolTab (ix2 p q)) := by
  rw [KernelIdeal.Val.poolTab_apply, axis_real, axis_real]
  exact ⟨_, (EReal.coe_mul _ _).symm⟩

theorem pt_real {a0 : FVec Ideal Cert.KernelIdeal.S16x3x224x224 .f32} (h : ∀ i, IsReal (a0 i)) (b : Fin 16) (p : Fin 256) (x : Fin 588) : IsReal (pt a0 b p x) := by
  unfold pt
  rw [KernelIdeal.Val.patches_apply]
  exact h _

theorem net_real {a1 : FVec Ideal Cert.KernelIdeal.S588x1024 .f32} {a2 : FVec Ideal Cert.KernelIdeal.S1024 .f32} {a3 : FVec Ideal Cert.KernelIdeal.S2x1024x1024 .f32}
    {a4 : FVec Ideal Cert.KernelIdeal.S2x1024 .f32} (h1 : ∀ i, IsReal (a1 i)) (h2 : ∀ i, IsReal (a2 i)) (h3 : ∀ i, IsReal (a3 i)) (h4 : ∀ i, IsReal (a4 i)) :
    Net.Real (net a1 a2 a3 a4) := ⟨fun _ _ => h1 _, fun _ => h2 _, fun _ _ _ => h3 _, fun _ _ => h4 _⟩

end Cert.Spec
-- ==== Proof.Value.Whole.lean ====
module

public import proofs.«01_k».proof.Proof.Value.Scores
public import proofs.«01_k».proof.Proof.Value.Finite
public import proofs.«01_k».proof.Proof.Value.Ends

@[expose] public section

set_option maxRecDepth 16384

noncomputable section

/-! The three kernels and the host operations between them, composed: the two results of the whole program are the reference's. -/

namespace Cert.Spec

open Cert.KernelIdeal Cert.KernelIdeal.Gen
open Idealize.ShloMosaic Idealize.ShloMosaic.TcCoe
open Cert.KernelIdeal.Val (net patches poolTab feats squares)

variable {c : Dev nD} {V4 V5 V7 : Valuation τ sig (Elt Ideal)} (U : Valuation τ sig (Elt Ideal))

/-- The contents the first kernel starts from. -/
abbrev begun : Valuation τ sig (Elt Ideal) := StableHlo.after hostOps0_2 (StableHlo.after hostOps0_1 (StableHlo.after hostOps0 U))

theorem begun_keep {r : Ref sig .tc} (h0 : r ∉ hostOps0_W) (h1 : r ∉ hostOps0_1_W) (h2 : r ∉ hostOps0_2_W) :
    begun U (Proc.devRef .tc r) = U (Proc.devRef .tc r) := by
  unfold begun
  rw [StableHlo.after_of_writes_sub hostOps0_2 _ hostOps0_2_writes h2, StableHlo.after_of_writes_sub hostOps0_1 _ hostOps0_1_writes h1,
    StableHlo.after_of_writes_sub hostOps0 _ hostOps0_writes h0]

theorem begun_patches : begun U main_v3 = patches (U main_arg0) := by
  unfold begun
  rw [StableHlo.after_of_writes_sub hostOps0_2 _ hostOps0_2_writes (by decide), StableHlo.after_of_writes_sub hostOps0_1 _ hostOps0_1_writes (by decide)]
  exact KernelIdeal.Val.read_v3 U

/-- The features of the arguments. -/
def made (f : Fin 4) (b : Fin 16) (p : Fin 256) (e : Fin 1024) : EReal :=
  feature (net (U main_arg1) (U main_arg2) (U main_arg3) (U main_arg4)) (fun p q => poolTab (ix2 p q)) (pt (U main_arg0) b) f p e

theorem feats_begun : feats (begun U) = made U := by
  funext f b p e
  have e1 : begun U main_arg1 = U main_arg1 := begun_keep U (by decide) (by decide) (by decide)
  have e2 : begun U main_arg2 = U main_arg2 := begun_keep U (by decide) (by decide) (by decide)
  have e3 : begun U main_arg3 = U main_arg3 := begun_keep U (by decide) (by decide) (by decide)
  have e4 : begun U main_arg4 = U main_arg4 := begun_keep U (by decide) (by decide) (by decide)
  have e5 : begun U main_v29 = poolTab := KernelIdeal.Val.read_v29 U
  have e6 := begun_patches U
  unfold feats made pt
  rw [e1, e2, e3, e4, e5, e6]

/-- The arguments' elements are real. -/
structure Finite : Prop where
  x : ∀ i, IsReal ((U main_arg0 : FVec Ideal S16x3x224x224 .f32) i)
  wp : ∀ i, IsReal ((U main_arg1 : FVec Ideal S588x1024 .f32) i)
  bp : ∀ i, IsReal ((U main_arg2 : FVec Ideal S1024 .f32) i)
  wl : ∀ i, IsReal ((U main_arg3 : FVec Ideal S2x1024x1024 .f32) i)
  bl : ∀ i, IsReal ((U main_arg4 : FVec Ideal S2x1024 .f32) i)

variable {U}

theorem made_real (h : Finite U) (f : Fin 4) (b : Fin 16) (p : Fin 256) (e : Fin 1024) : IsReal (made U f b p e) :=
  feature_real (net_real h.wp h.bp h.wl h.bl) pool_real (pt_real h.x b) f p e

theorem norm_ne_bot (h : Finite U) (f : Fin 4) (b : Fin 16) (p : Fin 256) : norm (made U) f b p ≠ ⊥ := by
  obtain ⟨r, hr⟩ : IsReal (norm (made U) f b p) := IsReal.sum fun e => (made_real h f b p e).mul (made_real h f b p e)
  rw [hr]; exact EReal.coe_ne_bot r

/-- The reference's scores of the arguments. -/
abbrev target (U : Valuation τ sig (Elt Ideal)) : FVec Ideal Cert.ReferenceIdeal.S16x256 .f32 :=
  ReferenceIdeal.Val.score (U main_arg0) (U main_arg1) (U main_arg2) (U main_arg3) (U main_arg4)

/-- The scores that the third kernel computes from what the first two leave. -/
theorem scores_of_steps (h : Finite U) (s3 : Stage.Step (Body.facts0 (F := Ideal)) c (begun U) V4) (s4 : Stage.Step (Body.facts1 (F := Ideal)) c V4 V5)
    (b : Fin 16) (p : Fin 256) :
    Body.scores (V5 main_v31_0) (V5 main_v31_1) (V5 main_v30_2) (ix1 ⟨256 * b.val + p.val, by omega⟩) = target U (ix2 b p) := by
  have hk : V5 main_v30_2 = V4 main_v30_2 := Stage.Step.keep s4 (by decide)
  have ha : ∀ f b p e, V4 main_v30_0 (ix4 f b p e) = made U f b p e := fun f b p e =>
    (KernelIdeal.Val.features_of_step s3 f b p e).trans (by rw [feats_begun])
  have hr : ∀ f b p e, IsReal (feats (begun U) f b p e) := fun f b p e => by rw [feats_begun]; exact made_real h f b p e
  have hs : squares (begun U) = norm (made U) := by unfold squares norm; rw [feats_begun]
  have hq : ∀ f b p l, V4 main_v30_1 (ix4 f b p l) = norm (made U) f b p := fun f b p l =>
    (KernelIdeal.Val.squares_of_step s3 hr f b p l).trans (by rw [hs])
  have hl : ∀ f, V5 main_v30_2 (ix3 f 0 ⟨b.val * 256 + p.val, by omega⟩) = norm (made U) f b p := fun f => by
    rw [hk, ← hs]; exact KernelIdeal.Val.lines_of_step s3 f b p
  have e : (⟨256 * b.val + p.val, by omega⟩ : Fin 4096) = ⟨b.val * 256 + p.val, by omega⟩ := Fin.ext (by dsimp only; omega)
  rw [e]
  exact score_eq (made U) _ (fun f b p e => fields_eq _ _ _ _ _ (fun l b p e => layer_real (net_real h.wp h.bp h.wl h.bl) (pt_real h.x b) l p e) f b p e)
    (norm_ne_bot h) b p _ _ _ _ hl fun f j => KernelIdeal.Val.nth_slots ha hq s4 f b p j

theorem middle (r : Ref sig .tc) (h : r ∉ hostOps2_W) : StableHlo.after hostOps2 V5 (Proc.devRef .tc r) = V5 (Proc.devRef .tc r) :=
  StableHlo.after_of_writes_sub hostOps2 _ hostOps2_writes h

/-- The whole program's score maps. -/
theorem maps_of_steps (h : Finite U) (s3 : Stage.Step (Body.facts0 (F := Ideal)) c (begun U) V4) (s4 : Stage.Step (Body.facts1 (F := Ideal)) c V4 V5)
    (s6 : Stage.Step (Body.facts2 (F := Ideal)) c (StableHlo.after hostOps2 V5) V7) :
    StableHlo.after hostOps3 V7 main_v59_0 = ReferenceIdeal.Val.maps (target U) := by
  rw [StableHlo.after_of_writes_sub hostOps3 _ hostOps3_writes (by decide)]
  refine Eq.trans (funext fun i => KernelIdeal.Val.array2_5 s6 ⟨0, by decide⟩ i) ?_
  have m0 := middle (V5 := V5) main_v31_0 (by decide)
  have m1 := middle (V5 := V5) main_v31_1 (by decide)
  have m2 := middle (V5 := V5) main_v30_2 (by decide)
  rw [m0, m1, m2, KernelIdeal.Val.read_v54, KernelIdeal.Val.read_v58]
  exact same_maps _ (target U) (scores_of_steps h s3 s4)

/-- The whole program's image scores. -/
theorem tops_of_steps (h : Finite U) (s3 : Stage.Step (Body.facts0 (F := Ideal)) c (begun U) V4) (s4 : Stage.Step (Body.facts1 (F := Ideal)) c V4 V5)
    (s6 : Stage.Step (Body.facts2 (F := Ideal)) c (StableHlo.after hostOps2 V5) V7) :
    StableHlo.after hostOps3 V7 main_v60 = ReferenceIdeal.Val.tops (target U) := by
  refine funext fun (y : Cert.KernelIdeal.S16.Idx) => ?_
  idx_vars y
  refine (KernelIdeal.Val.read_v60 V7 y0).trans ((KernelIdeal.Val.array2_6 s6 ⟨0, by decide⟩ y0).trans ?_)
  have m0 := middle (V5 := V5) main_v31_0 (by decide)
  have m1 := middle (V5 := V5) main_v31_1 (by decide)
  have m2 := middle (V5 := V5) main_v30_2 (by decide)
  rw [m0, m1, m2]
  refine Eq.trans ?_ (ReferenceIdeal.Val.tops_apply (target U) y0).symm
  exact congrArg (Finset.fold max (Ideal.ofBits .f32 0xFF800000#32) · Finset.univ) (funext fun p => scores_of_steps h s3 s4 y0 p)

end Cert.Spec
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Run
public import proofs.«01_k».proof.Proof.Words.Run
public import proofs.«01_k».proof.Proof.Value.Reference
public import proofs.«01_k».proof.Proof.Value.Whole
public import Idealize.ShloMosaic.Adequacy
public import Idealize.ShloMosaic.Init

@[expose] public section

noncomputable section

namespace Cert.Proof

open Idealize.ShloMosaic Idealize.SL.Sem

/-- The reference ends with its arguments as launched and every counter at zero (it declares none). -/
theorem reference_frame : Cert.quiescent_ReferenceIdeal := fun m g _ =>
  (θ_run _ _ _).mono (fun r h => ⟨fun c => (h c).2.2, Idealize.ShloMosaic.sem_eq_zero_of_no_sems (by decide) r.2⟩)
    (Cert.ReferenceIdeal.Value.run m g)

/-- The two named constants are within the rule's tolerance of the words they replace. -/
theorem preserves : Cert.preserves_Kernel_KernelIdeal :=
  ⟨IdealRules.named_const.statement Cert.KernelIdeal.κ "big" .f32 0x7F61B1E6#32 ⊤ rfl,
    IdealRules.named_const.statement Cert.KernelIdeal.κ "fifth" .f32 0x3E4CCCCD#32 ((5⁻¹ : ℝ) : EReal) rfl⟩

section
variable [Cert.Pre_all_finite.Facts]

open Idealize.ShloMosaic.TcCoe in
/-- From finite arguments the kernel ends with the reference's maps and tops of them, its arguments as launched. -/
theorem kernel_run (m : (ℓ : Loc Cert.KernelIdeal.nD Cert.KernelIdeal.τ Cert.KernelIdeal.sig) → Buf (Elt Ideal) ℓ) (g : Dev Cert.KernelIdeal.nD → PrngReg)
    (hf : Cert.Pre_KernelIdeal_all_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v60) = Cert.ReferenceIdeal.Val.tops (Cert.Spec.target fun b => m ((c : Thread Cert.KernelIdeal.nD Cert.KernelIdeal.τ).1, b))
      ∧ r.2.mem ((c.tc : Thread Cert.KernelIdeal.nD Cert.KernelIdeal.τ).loc Cert.KernelIdeal.main_v59_0) = Cert.ReferenceIdeal.Val.maps (Cert.Spec.target fun b => m ((c : Thread Cert.KernelIdeal.nD Cert.KernelIdeal.τ).1, b))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run _ _ _).mono (fun r h c => ?_) (Cert.KernelIdeal.Body.run_all m g)
  obtain ⟨V, hV, hm⟩ := h.1 c
  have keep : ∀ {b : Ref Cert.KernelIdeal.sig .tc}, Cert.KernelIdeal.Body.Untouched b → Proc.devRef .tc b ∈ Pipeline.ucRefs Cert.KernelIdeal.τ Cert.KernelIdeal.sig →
      r.2.mem ((c.tc : Thread Cert.KernelIdeal.nD Cert.KernelIdeal.τ).loc b) = m ((c.tc : Thread Cert.KernelIdeal.nD Cert.KernelIdeal.τ).loc b) :=
    fun hb hu => (hm _ hu).trans (Cert.KernelIdeal.Body.Q8_untouched m hb c hV)
  have k0 := keep Cert.KernelIdeal.Body.untouched_arg0 (Finset.mem_filter.mpr ⟨StableHlo.devRef_mem_tcRefs _, by decide⟩)
  have k1 := keep Cert.KernelIdeal.Body.untouched_arg1 (Finset.mem_filter.mpr ⟨StableHlo.devRef_mem_tcRefs _, by decide⟩)
  have k2 := keep Cert.KernelIdeal.Body.untouched_arg2 (Finset.mem_filter.mpr ⟨StableHlo.devRef_mem_tcRefs _, by decide⟩)
  have k3 := keep Cert.KernelIdeal.Body.untouched_arg3 (Finset.mem_filter.mpr ⟨StableHlo.devRef_mem_tcRefs _, by decide⟩)
  have k4 := keep Cert.KernelIdeal.Body.untouched_arg4 (Finset.mem_filter.mpr ⟨StableHlo.devRef_mem_tcRefs _, by decide⟩)
  clear keep
  obtain ⟨V7, ⟨V6, ⟨V5, ⟨V4, ⟨V3, ⟨V2, ⟨V1, ⟨V0, rfl, rfl⟩, rfl⟩, rfl⟩, s3⟩, s4⟩, rfl⟩, s6⟩, rfl⟩ := hV
  obtain ⟨h0, h1, h2, h3, h4⟩ := Cert.Spec.finite_args (hf c)
  have hU : Cert.Spec.Finite fun b => m ((c : Thread Cert.KernelIdeal.nD Cert.KernelIdeal.τ).1, b) := ⟨h0, h1, h2, h3, h4⟩
  exact ⟨(hm (Proc.devRef .tc Cert.KernelIdeal.main_v60) (Finset.mem_filter.mpr ⟨StableHlo.devRef_mem_tcRefs Cert.KernelIdeal.main_v60, by decide⟩)).trans
      (Cert.Spec.tops_of_steps hU s3 s4 s6),
    (hm (Proc.devRef .tc Cert.KernelIdeal.main_v59_0) (Finset.mem_filter.mpr ⟨StableHlo.devRef_mem_tcRefs Cert.KernelIdeal.main_v59_0, by decide⟩)).trans
      (Cert.Spec.maps_of_steps hU s3 s4 s6), k0, k1, k2, k3, k4⟩

/-- From equal finite arguments the two programs end with equal results. -/
theorem equal_results : Cert.algebraic_KernelIdeal_ReferenceIdeal_pre_all_finite := fun m g m' g' hf ha =>
  ⟨fun _ => Cert.ReferenceIdeal.Val.tops (Cert.Spec.target _), fun _ => Cert.ReferenceIdeal.Val.maps (Cert.Spec.target _), kernel_run m g hf,
    (θ_run _ _ _).mono (fun r h c => by
      obtain ⟨a0, a1, a2, a3, a4⟩ := ha c
      obtain ⟨e1, e2, hk⟩ := h c
      refine ⟨e1.trans ((Cert.ReferenceIdeal.Val.res_tops m' c).trans ?_), e2.trans ((Cert.ReferenceIdeal.Val.res_maps m' c).trans ?_), hk⟩
      · rw [a0, a1, a2, a3, a4]
      · rw [a0, a1, a2, a3, a4]) (Cert.ReferenceIdeal.Value.run m' g')⟩

end

theorem claim : Cert.Claim := ⟨Cert.Kernel.Gen.facts, Cert.KernelIdeal.Gen.facts, Cert.ReferenceIdeal.Gen.facts, Cert.Spec.finite_facts,
  fun m g _ => Cert.Kernel.Body.frame_all m g, fun m g _ => Cert.KernelIdeal.Body.frame_all m g, fun m g _ => Cert.KernelIdeal.Body.frame_all m g,
  reference_frame, fun m g _ => reference_frame m g trivial, preserves, @equal_results Cert.Spec.finite_facts⟩

end Cert.Proof

end
